-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_values [hPre_bf16_values : Cert.Pre_bf16_values.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_values [hPre_bf16_values : Cert.Pre_bf16_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bf16_values [hKernelIdeal : Cert.KernelIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bf16_values [hReferenceIdeal : Cert.ReferenceIdeal.Facts] [hPre_bf16_values : Cert.Pre_bf16_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bf16_values [hKernelIdeal : Cert.KernelIdeal.Facts] [hReferenceIdeal : Cert.ReferenceIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bf16_values : Cert.Pre_bf16_values.Facts),
    quiescent_Kernel (hKernel := hKernel)
    ∧ quiescent_KernelIdeal (hKernelIdeal := hKernelIdeal)
    ∧ quiescent_KernelIdeal_pre_bf16_values (hKernelIdeal := hKernelIdeal) (hPre_bf16_values := hPre_bf16_values)
    ∧ quiescent_ReferenceIdeal (hReferenceIdeal := hReferenceIdeal)
    ∧ quiescent_ReferenceIdeal_pre_bf16_values (hReferenceIdeal := hReferenceIdeal) (hPre_bf16_values := hPre_bf16_values)
    ∧ preserves_Kernel_KernelIdeal
    ∧ algebraic_KernelIdeal_ReferenceIdeal_pre_bf16_values (hKernelIdeal := hKernelIdeal) (hReferenceIdeal := hReferenceIdeal) (hPre_bf16_values := hPre_bf16_values)
-- ==== Pre_bf16_values.lean ====
abbrev S3x1024x3840 : Shape := ⟨3, ![3, 1024, 3840]⟩
abbrev S3x1024x5632 : Shape := ⟨3, ![3, 1024, 5632]⟩
abbrev S5632x3840 : Shape := ⟨2, ![5632, 3840]⟩
abbrev S_ : Shape := ⟨0, ![]⟩

class Facts : Prop where
  bitsLt_bf16_f32 : FTy.bits .bf16 < FTy.bits .f32
  bcast_S_S3x1024x3840 : S_.BroadcastsInDim S3x1024x3840 (![] : Fin 0 → Fin S3x1024x3840.rank)
  reducesTo_S3x1024x3840_S_d0_1_2 : S3x1024x3840.ReducesTo [0, 1, 2] S_
  h_S_ : 0 < S_.numel
  bcast_S_S3x1024x5632 : S_.BroadcastsInDim S3x1024x5632 (![] : Fin 0 → Fin S3x1024x5632.rank)
  reducesTo_S3x1024x5632_S_d0_1_2 : S3x1024x5632.ReducesTo [0, 1, 2] S_

variable [Facts]

def fn {F : FTy → Type} [FloatOps F] (main_arg0 : FVec F S3x1024x3840 .bf16) (main_arg1 : FVec F S3x1024x5632 .bf16) (main_arg2 : FVec F S5632x3840 .f32) : IVec S_ 1 :=
  let main_v0 : FVec F S3x1024x3840 .f32 := (extf .f32 · bitsLt_bf16_f32) main_arg0
  let main_v1 : FVec F S3x1024x3840 .f32 := Host.absf main_v0
  let main_v2 : FVec F S3x1024x5632 .f32 := (extf .f32 · bitsLt_bf16_f32) main_arg1
  let main_v3 : FVec F S3x1024x5632 .f32 := Host.absf main_v2
  let main_cst : FVec F S_ .f32 := constant S_ .f32 0x7F7F0000#32
  let main_v4 : FVec F S3x1024x3840 .f32 := broadcastInDim S3x1024x3840 ![] bcast_S_S3x1024x3840 main_cst
  let main_v5 : IVec S3x1024x3840 1 := cmpf .ole main_v1 main_v4
  let main_cst_0 : FVec F S_ .f32 := constant S_ .f32 0x7F800000#32
  let main_v6 : FVec F S3x1024x3840 .f32 := broadcastInDim S3x1024x3840 ![] bcast_S_S3x1024x3840 main_cst_0
  let main_v7 : IVec S3x1024x3840 1 := cmpf .oeq main_v1 main_v6
  let main_v8 : IVec S3x1024x3840 1 := ori main_v5 main_v7
  let main_c : IVec S_ 1 := constantI S_ 1 1#1
  let main_v9 : IVec S_ 1 := (fun x v => Host.reduce IntOp.andi x v reducesTo_S3x1024x3840_S_d0_1_2 h_S_) main_v8 main_c
  let main_cst_1 : FVec F S_ .f32 := constant S_ .f32 0x7F7F0000#32
  let main_v10 : FVec F S3x1024x5632 .f32 := broadcastInDim S3x1024x5632 ![] bcast_S_S3x1024x5632 main_cst_1
  let main_v11 : IVec S3x1024x5632 1 := cmpf .ole main_v3 main_v10
  let main_cst_2 : FVec F S_ .f32 := constant S_ .f32 0x7F800000#32
  let main_v12 : FVec F S3x1024x5632 .f32 := broadcastInDim S3x1024x5632 ![] bcast_S_S3x1024x5632 main_cst_2
  let main_v13 : IVec S3x1024x5632 1 := cmpf .oeq main_v3 main_v12
  let main_v14 : IVec S3x1024x5632 1 := ori main_v11 main_v13
  let main_c_3 : IVec S_ 1 := constantI S_ 1 1#1
  let main_v15 : IVec S_ 1 := (fun x v => Host.reduce IntOp.andi x v reducesTo_S3x1024x5632_S_d0_1_2 h_S_) main_v14 main_c_3
  let main_v16 : IVec S_ 1 := andi main_v9 main_v15
  main_v16
-- ==== Kernel.lean ====
abbrev S3x1024x3840 : Shape := ⟨3, ![3, 1024, 3840]⟩
abbrev S3x1024x5632 : Shape := ⟨3, ![3, 1024, 5632]⟩
abbrev S5632x3840 : Shape := ⟨2, ![5632, 3840]⟩
abbrev S3072x3840 : Shape := ⟨2, ![3072, 3840]⟩
abbrev S3072x5632 : Shape := ⟨2, ![3072, 5632]⟩
abbrev S1x3840 : Shape := ⟨2, ![1, 3840]⟩
abbrev S1x5632 : Shape := ⟨2, ![1, 5632]⟩
abbrev S3072x256 : Shape := ⟨2, ![3072, 256]⟩
abbrev S256x3840 : Shape := ⟨2, ![256, 3840]⟩
abbrev S2x256x3072 : Shape := ⟨3, ![2, 256, 3072]⟩
abbrev S2x256x128 : Shape := ⟨3, ![2, 256, 128]⟩
abbrev S16x256 : Shape := ⟨2, ![16, 256]⟩
abbrev S256 : Shape := ⟨1, ![256]⟩
abbrev S1x256 : Shape := ⟨2, ![1, 256]⟩
abbrev S128x256 : Shape := ⟨2, ![128, 256]⟩
abbrev S256x128 : Shape := ⟨2, ![256, 128]⟩
abbrev S1x256x128 : Shape := ⟨3, ![1, 256, 128]⟩
abbrev S256x256 : Shape := ⟨2, ![256, 256]⟩
abbrev S1x256x256 : Shape := ⟨3, ![1, 256, 256]⟩
abbrev S1x256x3072 : Shape := ⟨3, ![1, 256, 3072]⟩
abbrev S256x3072 : Shape := ⟨2, ![256, 3072]⟩
abbrev S3072x512 : Shape := ⟨2, ![3072, 512]⟩
abbrev S256x512 : Shape := ⟨2, ![256, 512]⟩
abbrev S1x128 : Shape := ⟨2, ![1, 128]⟩

abbrev nBuf : Space → Nat
  | .hbm => 10
  | .vmem => 18
  | .smem => 0
  | _ => 0

abbrev bufTy : (tb : Table) → Fin (tcTables nBuf tb) → BufTy
  | .hbm, ⟨0, _⟩ => ⟨S3x1024x3840, .bf16⟩
  | .hbm, ⟨1, _⟩ => ⟨S3x1024x5632, .bf16⟩
  | .hbm, ⟨2, _⟩ => ⟨S5632x3840, .f32⟩
  | .hbm, ⟨3, _⟩ => ⟨S3072x3840, .bf16⟩
  | .hbm, ⟨4, _⟩ => ⟨S3072x5632, .bf16⟩
  | .hbm, ⟨5, _⟩ => ⟨S5632x3840, .f32⟩
  | .hbm, ⟨6, _⟩ => ⟨S3072x3840, .fp8e4m3⟩
  | .hbm, ⟨7, _⟩ => ⟨S1x3840, .f32⟩
  | .hbm, ⟨8, _⟩ => ⟨S3072x5632, .fp8e5m2⟩
  | .hbm, ⟨9, _⟩ => ⟨S1x5632, .f32⟩
  | .local _ .vmem, ⟨0, _⟩ => ⟨S3072x256, .bf16⟩
  | .local _ .vmem, ⟨1, _⟩ => ⟨S3072x256, .bf16⟩
  | .local _ .vmem, ⟨2, _⟩ => ⟨S3072x256, .bf16⟩
  | .local _ .vmem, ⟨3, _⟩ => ⟨S3072x256, .bf16⟩
  | .local _ .vmem, ⟨4, _⟩ => ⟨S256x3840, .f32⟩
  | .local _ .vmem, ⟨5, _⟩ => ⟨S256x3840, .f32⟩
  | .local _ .vmem, ⟨6, _⟩ => ⟨S256x3840, .f32⟩
  | .local _ .vmem, ⟨7, _⟩ => ⟨S256x3840, .f32⟩
  | .local _ .vmem, ⟨8, _⟩ => ⟨S3072x256, .fp8e4m3⟩
  | .local _ .vmem, ⟨9, _⟩ => ⟨S3072x256, .fp8e4m3⟩
  | .local _ .vmem, ⟨10, _⟩ => ⟨S1x3840, .f32⟩
  | .local _ .vmem, ⟨11, _⟩ => ⟨S3072x256, .fp8e5m2⟩
  | .local _ .vmem, ⟨12, _⟩ => ⟨S3072x256, .fp8e5m2⟩
  | .local _ .vmem, ⟨13, _⟩ => ⟨S1x5632, .f32⟩
  | .local _ .vmem, ⟨14, _⟩ => ⟨S3072x3840, .fp8e4m3⟩
  | .local _ .vmem, ⟨15, _⟩ => ⟨S2x256x3072, .fp8e5m2⟩
  | .local _ .vmem, ⟨16, _⟩ => ⟨S1x3840, .f32⟩
  | .local _ .vmem, ⟨17, _⟩ => ⟨S2x256x128, .f32⟩
  | _, _ => ⟨S3x1024x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![38], ![false]⟩

def k0_cond1 (i : grid0.Coords) : BitVec 1 :=
  let arg0 : BitVec 32 := BitVec.ofNat 32 (i 0).val
  let c15_i32 : BitVec 32 := 15#32
  let v0 : BitVec 1 := Scalar.cmpi .slt arg0 c15_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v1098 : BitVec 32 := Scalar.muli arg0 c256_i32
  v1098
def k0_off1 (i : grid0.Coords) : Fin 2 → Nat :=
  let c0_356 : Index := 0#32
  let arg0 : BitVec 32 := BitVec.ofNat 32 (i 0).val
  let c256_i32 : BitVec 32 := 256#32
  let v1098 : BitVec 32 := Scalar.muli arg0 c256_i32
  let v1099 : BitVec 32 := v1098
  let v1102 : Index := Scalar.indexCast v1099
  ![0, v1102.toNat]
def k0_off2 (i : grid0.Coords) : Fin 2 → Nat :=
  let c0_357 : Index := 0#32
  let arg0 : BitVec 32 := BitVec.ofNat 32 (i 0).val
  let c256_i32 : BitVec 32 := 256#32
  let v1098 : BitVec 32 := Scalar.muli arg0 c256_i32
  let v1099 : BitVec 32 := v1098
  let v1106 : Index := Scalar.indexCast v1099
  ![0, v1106.toNat]
def k0_cond2 (i : grid0.Coords) : BitVec 1 :=
  let arg0 : BitVec 32 := BitVec.ofNat 32 (i 0).val
  let c15_i32_0 : BitVec 32 := 15#32
  let v3 : BitVec 1 := Scalar.cmpi .eq arg0 c15_i32_0
  let v4 : BitVec 32 := Scalar.extui v3
  let c0_i32_1 : BitVec 32 := 0#32
  let v5 : BitVec 1 := Scalar.cmpi .ne v4 c0_i32_1
  v5

def k0_mult2 (i : grid0.Coords) : BitVec 32 :=
  let arg0 : BitVec 32 := BitVec.ofNat 32 (i 0).val
  let c15_i32_356 : BitVec 32 := 15#32
  let v1100 : BitVec 32 := Scalar.subi arg0 c15_i32_356
  let c21_i32 : BitVec 32 := 21#32
  let v1101 : BitVec 32 := Scalar.minsi v1100 c21_i32
  let c256_i32 : BitVec 32 := 256#32
  let v1102 : BitVec 32 := Scalar.muli v1101 c256_i32
  v1102
def k0_off3 (i : grid0.Coords) : Fin 2 → Nat :=
  let c0_357 : Index := 0#32
  let arg0 : BitVec 32 := BitVec.ofNat 32 (i 0).val
  let c15_i32_356 : BitVec 32 := 15#32
  let v1100 : BitVec 32 := Scalar.subi arg0 c15_i32_356
  let c21_i32 : BitVec 32 := 21#32
  let v1101 : BitVec 32 := Scalar.minsi v1100 c21_i32
  let c256_i32 : BitVec 32 := 256#32
  let v1102 : BitVec 32 := Scalar.muli v1101 c256_i32
  let v1103 : BitVec 32 := v1102
  let v1104 : Index := Scalar.indexCast v1103
  ![0, v1104.toNat]
def k0_off4 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1109 : Index := Scalar.indexCast v10
  let c0_358 : Index := 0#32
  let c0_359 : Index := 0#32
  ![v1109.toNat, 0, 0]
def k0_off5 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1116 : Index := Scalar.indexCast v10
  let c0_362 : Index := 0#32
  let c0_363 : Index := 0#32
  ![v1116.toNat, 0, 0]
def k0_off6 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1123 : Index := Scalar.indexCast v10
  let c0_366 : Index := 0#32
  let c256_367 : Index := 256#32
  ![v1123.toNat, 0, 256]
def k0_off7 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1130 : Index := Scalar.indexCast v10
  let c0_370 : Index := 0#32
  let c512_371 : Index := 512#32
  ![v1130.toNat, 0, 512]
def k0_off8 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1137 : Index := Scalar.indexCast v10
  let c0_374 : Index := 0#32
  let c768_375 : Index := 768#32
  ![v1137.toNat, 0, 768]
def k0_off9 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1144 : Index := Scalar.indexCast v10
  let c0_378 : Index := 0#32
  let c1024_379 : Index := 1024#32
  ![v1144.toNat, 0, 1024]
def k0_off10 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1151 : Index := Scalar.indexCast v10
  let c0_382 : Index := 0#32
  let c1280_383 : Index := 1280#32
  ![v1151.toNat, 0, 1280]
def k0_off11 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1158 : Index := Scalar.indexCast v10
  let c0_386 : Index := 0#32
  let c1536_387 : Index := 1536#32
  ![v1158.toNat, 0, 1536]
def k0_off12 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1165 : Index := Scalar.indexCast v10
  let c0_390 : Index := 0#32
  let c1792_391 : Index := 1792#32
  ![v1165.toNat, 0, 1792]
def k0_off13 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1172 : Index := Scalar.indexCast v10
  let c0_394 : Index := 0#32
  let c2048_395 : Index := 2048#32
  ![v1172.toNat, 0, 2048]
def k0_off14 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1179 : Index := Scalar.indexCast v10
  let c0_398 : Index := 0#32
  let c2304_399 : Index := 2304#32
  ![v1179.toNat, 0, 2304]
def k0_off15 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1186 : Index := Scalar.indexCast v10
  let c0_402 : Index := 0#32
  let c2560_403 : Index := 2560#32
  ![v1186.toNat, 0, 2560]
def k0_off16 (i : grid0.Coords) : Fin 3 → Nat :=
  let arg0 : BitVec 32 := BitVec.ofNat 32 (i 0).val
  let c15_i32_4 : BitVec 32 := 15#32
  let v9 : BitVec 32 := Scalar.subi arg0 c15_i32_4
  let c2_i32 : BitVec 32 := 2#32
  let v10 : BitVec 32 := Scalar.remsi v9 c2_i32
  let v1193 : Index := Scalar.indexCast v10
  let c0_406 : Index := 0#32
  let c2816_407 : Index := 2816#32
  ![v1193.toNat, 0, 2816]
def k0_cond3 (i : grid0.Coords) : BitVec 1 :=
  let arg0 : BitVec 32 := BitVec.ofNat 32 (i 0).val
  let c15_i32_2 : BitVec 32 := 15#32
  let v6 : BitVec 1 := Scalar.cmpi .sgt arg0 c15_i32_2
  let v7 : BitVec 32 := Scalar.extui v6
  let c0_i32_3 : BitVec 32 := 0#32
  let v8 : BitVec 1 := Scalar.cmpi .ne v7 c0_i32_3
  v8

def k0_off17 (i : grid0.Coords) : Fin 3 → Nat :=
  let arg0 : BitVec 32 := BitVec.ofNat 32 (i 0).val
  let c15_i32_4 : BitVec 32 := 15#32
  let v9 : BitVec 32 := Scalar.subi arg0 c15_i32_4
  let c1_i32 : BitVec 32 := 1#32
  let v10 : BitVec 32 := Scalar.subi v9 c1_i32
  let c2_i32 : BitVec 32 := 2#32
  let v11 : BitVec 32 := Scalar.remsi v10 c2_i32
  let v12 : Index := Scalar.indexCast v11
  let c0 : Index := 0#32
  let c0_5 : Index := 0#32
  ![v12.toNat, 0, 0]
def k0_off18 (i : grid0.Coords) : Fin 3 → Nat :=
  let arg0 : BitVec 32 := BitVec.ofNat 32 (i 0).val
  let c15_i32_4 : BitVec 32 := 15#32
  let v9 : BitVec 32 := Scalar.subi arg0 c15_i32_4
  let c1_i32 : BitVec 32 := 1#32
  let v10 : BitVec 32 := Scalar.subi v9 c1_i32
  let c2_i32 : BitVec 32 := 2#32
  let v11 : BitVec 32 := Scalar.remsi v10 c2_i32
  let v17 : Index := Scalar.indexCast v11
  let c0_8 : Index := 0#32
  let c0_9 : Index := 0#32
  ![v17.toNat, 0, 0]
def k0_mult3 (i : grid0.Coords) : BitVec 32 :=
  let arg0 : BitVec 32 := BitVec.ofNat 32 (i 0).val
  let c15_i32_589 : BitVec 32 := 15#32
  let v1407 : BitVec 32 := Scalar.subi arg0 c15_i32_589
  let c21_i32 : BitVec 32 := 21#32
  let v1408 : BitVec 32 := Scalar.minsi v1407 c21_i32
  let c256_i32 : BitVec 32 := 256#32
  let v1409 : BitVec 32 := Scalar.muli v1408 c256_i32
  v1409
def k0_off19 (i : grid0.Coords) : Fin 2 → Nat :=
  let c0_590 : Index := 0#32
  let arg0 : BitVec 32 := BitVec.ofNat 32 (i 0).val
  let c15_i32_589 : BitVec 32 := 15#32
  let v1407 : BitVec 32 := Scalar.subi arg0 c15_i32_589
  let c21_i32 : BitVec 32 := 21#32
  let v1408 : BitVec 32 := Scalar.minsi v1407 c21_i32
  let c256_i32 : BitVec 32 := 256#32
  let v1409 : BitVec 32 := Scalar.muli v1408 c256_i32
  let v1410 : BitVec 32 := v1409
  let v1411 : Index := Scalar.indexCast v1410
  ![0, v1411.toNat]
def k0_off20 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1416 : Index := Scalar.indexCast v317
  let c0_591 : Index := 0#32
  let c0_592 : Index := 0#32
  ![v1416.toNat, 0, 0]
def k0_off21 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1423 : Index := Scalar.indexCast v317
  let c0_595 : Index := 0#32
  let c0_596 : Index := 0#32
  ![v1423.toNat, 0, 0]
def k0_off22 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1430 : Index := Scalar.indexCast v317
  let c0_599 : Index := 0#32
  let c256_600 : Index := 256#32
  ![v1430.toNat, 0, 256]
def k0_off23 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1437 : Index := Scalar.indexCast v317
  let c0_603 : Index := 0#32
  let c512_604 : Index := 512#32
  ![v1437.toNat, 0, 512]
def k0_off24 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1444 : Index := Scalar.indexCast v317
  let c0_607 : Index := 0#32
  let c768_608 : Index := 768#32
  ![v1444.toNat, 0, 768]
def k0_off25 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1451 : Index := Scalar.indexCast v317
  let c0_611 : Index := 0#32
  let c1024_612 : Index := 1024#32
  ![v1451.toNat, 0, 1024]
def k0_off26 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1458 : Index := Scalar.indexCast v317
  let c0_615 : Index := 0#32
  let c1280_616 : Index := 1280#32
  ![v1458.toNat, 0, 1280]
def k0_off27 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1465 : Index := Scalar.indexCast v317
  let c0_619 : Index := 0#32
  let c1536_620 : Index := 1536#32
  ![v1465.toNat, 0, 1536]
def k0_off28 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1472 : Index := Scalar.indexCast v317
  let c0_623 : Index := 0#32
  let c1792_624 : Index := 1792#32
  ![v1472.toNat, 0, 1792]
def k0_off29 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1479 : Index := Scalar.indexCast v317
  let c0_627 : Index := 0#32
  let c2048_628 : Index := 2048#32
  ![v1479.toNat, 0, 2048]
def k0_off30 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1486 : Index := Scalar.indexCast v317
  let c0_631 : Index := 0#32
  let c2304_632 : Index := 2304#32
  ![v1486.toNat, 0, 2304]
def k0_off31 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1493 : Index := Scalar.indexCast v317
  let c0_635 : Index := 0#32
  let c2560_636 : Index := 2560#32
  ![v1493.toNat, 0, 2560]
def k0_off32 (i : grid0.Coords) : Fin 3 → Nat :=
  let arg0 : BitVec 32 := BitVec.ofNat 32 (i 0).val
  let c15_i32_210 : BitVec 32 := 15#32
  let v316 : BitVec 32 := Scalar.subi arg0 c15_i32_210
  let c2_i32_211 : BitVec 32 := 2#32
  let v317 : BitVec 32 := Scalar.remsi v316 c2_i32_211
  let v1500 : Index := Scalar.indexCast v317
  let c0_639 : Index := 0#32
  let c2816_640 : Index := 2816#32
  ![v1500.toNat, 0, 2816]
def cc0_transform_0 (i : grid0.Coords) : Fin 2 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c21_i32 : BitVec 32 := 21#32
  let v1 : BitVec 32 := Scalar.maxsi c0_i32 v0
  let v2 : BitVec 32 := Scalar.minsi c21_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c15_i32 : BitVec 32 := 15#32
  let v0 : BitVec 32 := Scalar.subi arg0 c15_i32
  let c1_i32 : BitVec 32 := 1#32
  let v1 : BitVec 32 := Scalar.subi v0 c1_i32
  let c0_i32 : BitVec 32 := 0#32
  let c21_i32 : BitVec 32 := 21#32
  let v2 : BitVec 32 := Scalar.maxsi c0_i32 v1
  let v3 : BitVec 32 := Scalar.minsi c21_i32 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi arg0 c15_i32
  let c1_i32 : BitVec 32 := 1#32
  let v1 : BitVec 32 := Scalar.subi v0 c1_i32
  let c0_i32 : BitVec 32 := 0#32
  let c21_i32 : BitVec 32 := 21#32
  let v2 : BitVec 32 := Scalar.maxsi c0_i32 v1
  let v3 : BitVec 32 := Scalar.minsi c21_i32 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c21_i32 : BitVec 32 := 21#32
  let v1 : BitVec 32 := Scalar.maxsi c0_i32 v0
  let v2 : BitVec 32 := Scalar.minsi c21_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3072x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3072x256 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S3x1024x3840 : Shape := ⟨3, ![3, 1024, 3840]⟩
abbrev S3x1024x5632 : Shape := ⟨3, ![3, 1024, 5632]⟩
abbrev S5632x3840 : Shape := ⟨2, ![5632, 3840]⟩
abbrev S3072x3840 : Shape := ⟨2, ![3072, 3840]⟩
abbrev S3072x5632 : Shape := ⟨2, ![3072, 5632]⟩
abbrev S1x3840 : Shape := ⟨2, ![1, 3840]⟩
abbrev S1x5632 : Shape := ⟨2, ![1, 5632]⟩
abbrev S3840 : Shape := ⟨1, ![3840]⟩
abbrev S5632 : Shape := ⟨1, ![5632]⟩
abbrev S5632x1 : Shape := ⟨2, ![5632, 1]⟩

abbrev nBuf : Space → Nat
  | .hbm => 10
  | .vmem => 8
  | .smem => 0
  | _ => 0

abbrev bufTy : (tb : Table) → Fin (tcTables nBuf tb) → BufTy
  | .hbm, ⟨0, _⟩ => ⟨S3x1024x3840, .bf16⟩
  | .hbm, ⟨1, _⟩ => ⟨S3x1024x5632, .bf16⟩
  | .hbm, ⟨2, _⟩ => ⟨S5632x3840, .f32⟩
  | .hbm, ⟨3, _⟩ => ⟨S3072x3840, .bf16⟩
  | .hbm, ⟨4, _⟩ => ⟨S3072x5632, .bf16⟩
  | .hbm, ⟨5, _⟩ => ⟨S5632x3840, .f32⟩
  | .hbm, ⟨6, _⟩ => ⟨S3072x3840, .fp8e4m3⟩
  | .hbm, ⟨7, _⟩ => ⟨S1x3840, .f32⟩
  | .hbm, ⟨8, _⟩ => ⟨S3072x5632, .fp8e5m2⟩
  | .hbm, ⟨9, _⟩ => ⟨S1x5632, .f32⟩
  | .local _ .vmem, ⟨0, _⟩ => ⟨S3072x3840, .bf16⟩
  | .local _ .vmem, ⟨1, _⟩ => ⟨S3072x5632, .bf16⟩
  | .local _ .vmem, ⟨2, _⟩ => ⟨S5632x3840, .f32⟩
  | .local _ .vmem, ⟨3, _⟩ => ⟨S5632x3840, .f32⟩
  | .local _ .vmem, ⟨4, _⟩ => ⟨S3072x3840, .fp8e4m3⟩
  | .local _ .vmem, ⟨5, _⟩ => ⟨S1x3840, .f32⟩
  | .local _ .vmem, ⟨6, _⟩ => ⟨S3072x5632, .fp8e5m2⟩
  | .local _ .vmem, ⟨7, _⟩ => ⟨S1x5632, .f32⟩
  | _, _ => ⟨S3x1024x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3072x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5632x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5632x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x3840 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x5632 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Offsets.lean ====
module

public import proofs.«01_k».proof.Proof.Gen.KernelIdeal
public import Idealize.ShloMosaic.Lib.Tactic

/-! # The kernel's addresses in closed form

From step 15 on a step fills the slot `slot i` of the two double-buffered scratch arrays, and from
step 16 on it reads the slot `slotRead i` filled one step before. The offsets of every access to
those arrays are one of the two followed by literals; the 256 columns of the scale row written are
those of block `i - 15`. -/

@[expose] public section

namespace Cert.KernelIdeal

open Idealize.ShloMosaic Idealize.ShloMosaic.TcCoe Idealize.ShloMosaic.Tactic

/-- The slot of the double-buffered scratch the step fills. -/
def slot (i : grid0.Coords) : Nat := k0_off4 i 0
/-- The slot of the double-buffered scratch the step reads. -/
def slotRead (i : grid0.Coords) : Nat := k0_off17 i 0
/-- The first column of the scale row's block the step fills. -/
def rowCol (i : grid0.Coords) : Nat := k0_off3 i 1

theorem slot_eq : ∀ i : grid0.Coords, 15 ≤ (i 0).val → slot i = ((i 0).val + 1) % 2 := by decide +kernel
theorem slotRead_eq : ∀ i : grid0.Coords, 16 ≤ (i 0).val → slotRead i = (i 0).val % 2 := by decide +kernel
theorem rowCol_eq : ∀ i : grid0.Coords, 15 ≤ (i 0).val → rowCol i = 256 * min ((i 0).val - 15) 21 := by decide +kernel

theorem cond1_iff : ∀ i : grid0.Coords, k0_cond1 i = 1#1 ↔ (i 0).val < 15 := by decide +kernel
theorem cond2_iff : ∀ i : grid0.Coords, k0_cond2 i = 1#1 ↔ (i 0).val = 15 := by decide +kernel
theorem cond3_iff : ∀ i : grid0.Coords, k0_cond3 i = 1#1 ↔ 15 < (i 0).val := by decide +kernel

instance (i : grid0.Coords) : ClosedOff (k0_off3 i) := ⟨![0, rowCol i], by revert i; decide +kernel⟩
instance (i : grid0.Coords) : ClosedOff (k0_off19 i) := ⟨![0, rowCol i], by revert i; decide +kernel⟩
instance (i : grid0.Coords) : ClosedOff (k0_off4 i) := ⟨![slot i, 0, 0], by revert i; decide +kernel⟩
instance (i : grid0.Coords) : ClosedOff (k0_off20 i) := ⟨![slot i, 0, 0], by revert i; decide +kernel⟩
instance (i : grid0.Coords) : ClosedOff (k0_off5 i) := ⟨![slot i, 0, 0], by revert i; decide +kernel⟩
instance (i : grid0.Coords) : ClosedOff (k0_off6 i) := ⟨![slot i, 0, 256], by revert i; decide +kernel⟩
instance (i : grid0.Coords) : ClosedOff (k0_off7 i) := ⟨![slot i, 0, 512], by revert i; decide +kernel⟩
instance (i : grid0.Coords) : ClosedOff (k0_off8 i) := ⟨![slot i, 0, 768], by revert i; decide +kernel⟩
instance (i : grid0.Coords) : ClosedOff (k0_off9 i) := ⟨![slot i, 0, 1024], by revert i; decide +kernel⟩
instance (i : grid0.Coords) : ClosedOff (k0_off10 i) := ⟨![slot i, 0, 1280], by revert i; decide +kernel⟩
instance (i : grid0.Coords) : ClosedOff (k0_off11 i) := ⟨![slot i, 0, 1536], by revert i; decide +kernel⟩
instance (i : grid0.Coords) : ClosedOff (k0_off12 i) := ⟨![slot i, 0, 1792], by revert i; decide +kernel⟩
instance (i : grid0.Coords) : ClosedOff (k0_off13 i) := ⟨![slot i, 0, 2048], by revert i; decide +kernel⟩
instance (i : grid0.Coords) : ClosedOff (k0_off14 i) := ⟨![slot i, 0, 2304], by revert i; decide +kernel⟩
instance (i : grid0.Coords) : ClosedOff (k0_off15 i) := ⟨![slot i, 0, 2560], by revert i; decide +kernel⟩
instance (i : grid0.Coords) : ClosedOff (k0_off16 i) := ⟨![slot i, 0, 2816], by revert i; decide +kernel⟩
instance (i : grid0.Coords) : ClosedOff (k0_off21 i) := ⟨![slot i, 0, 0], by revert i; decide +kernel⟩
instance (i : grid0.Coords) : ClosedOff (k0_off22 i) := ⟨![slot i, 0, 256], by revert i; decide +kernel⟩
instance (i : grid0.Coords) : ClosedOff (k0_off23 i) := ⟨![slot i, 0, 512], by revert i; decide +kernel⟩
instance (i : grid0.Coords) : ClosedOff (k0_off24 i) := ⟨![slot i, 0, 768], by revert i; decide +kernel⟩
instance (i : grid0.Coords) : ClosedOff (k0_off25 i) := ⟨![slot i, 0, 1024], by revert i; decide +kernel⟩
instance (i : grid0.Coords) : ClosedOff (k0_off26 i) := ⟨![slot i, 0, 1280], by revert i; decide +kernel⟩
instance (i : grid0.Coords) : ClosedOff (k0_off27 i) := ⟨![slot i, 0, 1536], by revert i; decide +kernel⟩
instance (i : grid0.Coords) : ClosedOff (k0_off28 i) := ⟨![slot i, 0, 1792], by revert i; decide +kernel⟩
instance (i : grid0.Coords) : ClosedOff (k0_off29 i) := ⟨![slot i, 0, 2048], by revert i; decide +kernel⟩
instance (i : grid0.Coords) : ClosedOff (k0_off30 i) := ⟨![slot i, 0, 2304], by revert i; decide +kernel⟩
instance (i : grid0.Coords) : ClosedOff (k0_off31 i) := ⟨![slot i, 0, 2560], by revert i; decide +kernel⟩
instance (i : grid0.Coords) : ClosedOff (k0_off32 i) := ⟨![slot i, 0, 2816], by revert i; decide +kernel⟩
instance (i : grid0.Coords) : ClosedOff (k0_off17 i) := ⟨![slotRead i, 0, 0], by revert i; decide +kernel⟩
instance (i : grid0.Coords) : ClosedOff (k0_off18 i) := ⟨![slotRead i, 0, 0], by revert i; decide +kernel⟩

end Cert.KernelIdeal
end
-- ==== Proof.FrameRun.lean ====
module

public import proofs.«01_k».proof.Proof.Gen.KernelIdeal.Frame
public import proofs.«01_k».proof.Proof.Gen.KernelIdeal.Skeleton
public import proofs.«01_k».proof.Proof.Offsets
public import Idealize.ShloMosaic.Lib.Pipeline.Frame
public import Idealize.ShloMosaic.Lib.Tactic

/-! # The kernel runs safely and leaves its arguments alone

The body of one grid step is run once for each of its three cases: a step before step 15 quantises
a block of `x`; step 15 quantises the first block of `dy`; a later step multiplies the block of `dy`
quantised before it and quantises the next. Nothing is said here of what is written: the outputs and
the scratch are held at some contents. The pipeline's run theorem then gives the frame. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig Unit (Elt F) ℕ (UR sig nD τ) ℕ

/-- A step before step 15: it reads the block of `x` and writes its codes and its scales. -/
theorem run_early (c : Dev nD) (i : grid0.Coords) (h1 : k0_cond1 i = 1#1) (h2 : ¬ k0_cond2 i = 1#1) (h3 : ¬ k0_cond3 i = 1#1)
    (arg1 : Memref sig .tc .vmem S3072x256 .bf16) (harg1 : arg1.IsWhole) (arg2 : Memref sig .tc .vmem S3072x256 .bf16) (harg2 : arg2.IsWhole) (arg3 : Memref sig .tc .vmem S256x3840 .f32) (harg3 : arg3.IsWhole) (arg4 : Memref sig .tc .vmem S256x3840 .f32) (harg4 : arg4.IsWhole) (arg5 : Memref sig .tc .vmem S3072x256 .fp8e4m3) (harg5 : arg5.IsWhole) (arg6 : Memref sig .tc .vmem S1x3840 .f32) (harg6 : arg6.IsWhole) (arg7 : Memref sig .tc .vmem S3072x256 .fp8e5m2) (harg7 : arg7.IsWhole) (arg8 : Memref sig .tc .vmem S1x5632 .f32) (harg8 : arg8.IsWhole)
    (X1 : S3072x256.Idx → Elt F .bf16) (K : PUnit → sProp 𝕄) :
    iprop(owns (c : Thread nD τ) arg1 fullShare X1 ∗ (∃ d, owns (c : Thread nD τ) arg5 fullShare d) ∗ (∃ d, owns (c : Thread nD τ) arg6 fullShare d) ∗ (∃ d, owns (c : Thread nD τ) (Memref.whole cc0_scratch0) fullShare d) ∗ (∃ d, owns (c : Thread nD τ) (Memref.whole cc0_scratch2) fullShare d)
        ∗ (iprop(owns (c : Thread nD τ) arg1 fullShare X1 ∗ (∃ d, owns (c : Thread nD τ) arg5 fullShare d) ∗ (∃ d, owns (c : Thread nD τ) arg6 fullShare d) ∗ (∃ d, owns (c : Thread nD τ) (Memref.whole cc0_scratch0) fullShare d) ∗ (∃ d, owns (c : Thread nD τ) (Memref.whole cc0_scratch2) fullShare d)) -∗ K ⟨⟩))
      ⊢ wp frame (wpE (defs₀ (F := F)) Variants.none c none) Set.univ
          (cc0_fp8_wgrad i arg1 harg1 arg2 harg2 arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold owns
  iintro ⟨⟨%f1, %hf1, H1⟩, ⟨%d5, %f5, -, H5⟩, ⟨%d6, %f6, -, H6⟩, ⟨%e0, %g0, -, S0⟩, ⟨%e2, %g2, -, S2⟩, Hk⟩
  sl_exec
  sl_step
  iapply Hk
  isplitl [H1]
  · iexists _; isplitr; swap; · iexact H1
    ipureintro; exact hf1
  isplitl [H5]
  · iexists _, _; isplitr; swap; · iexact H5
    ipureintro; rfl
  isplitl [H6]
  · iexists _, _; isplitr; swap; · iexact H6
    ipureintro; rfl
  isplitl [S0]
  · iexists _, _; isplitr; swap; · iexact S0
    ipureintro; rfl
  iexists _, _; isplitr; swap; · iexact S2
  ipureintro; rfl

/-- Step 15: it reads the first block of `dy` and writes its codes and its scales. -/
theorem run_mid (c : Dev nD) (i : grid0.Coords) (h1 : ¬ k0_cond1 i = 1#1) (h2 : k0_cond2 i = 1#1) (h3 : ¬ k0_cond3 i = 1#1)
    (arg1 : Memref sig .tc .vmem S3072x256 .bf16) (harg1 : arg1.IsWhole) (arg2 : Memref sig .tc .vmem S3072x256 .bf16) (harg2 : arg2.IsWhole) (arg3 : Memref sig .tc .vmem S256x3840 .f32) (harg3 : arg3.IsWhole) (arg4 : Memref sig .tc .vmem S256x3840 .f32) (harg4 : arg4.IsWhole) (arg5 : Memref sig .tc .vmem S3072x256 .fp8e4m3) (harg5 : arg5.IsWhole) (arg6 : Memref sig .tc .vmem S1x3840 .f32) (harg6 : arg6.IsWhole) (arg7 : Memref sig .tc .vmem S3072x256 .fp8e5m2) (harg7 : arg7.IsWhole) (arg8 : Memref sig .tc .vmem S1x5632 .f32) (harg8 : arg8.IsWhole)
    (X2 : S3072x256.Idx → Elt F .bf16) (K : PUnit → sProp 𝕄) :
    iprop(owns (c : Thread nD τ) arg2 fullShare X2 ∗ (∃ d, owns (c : Thread nD τ) arg7 fullShare d) ∗ (∃ d, owns (c : Thread nD τ) arg8 fullShare d) ∗ (∃ d, owns (c : Thread nD τ) (Memref.whole cc0_scratch1) fullShare d) ∗ (∃ d, owns (c : Thread nD τ) (Memref.whole cc0_scratch3) fullShare d)
        ∗ (iprop(owns (c : Thread nD τ) arg2 fullShare X2 ∗ (∃ d, owns (c : Thread nD τ) arg7 fullShare d) ∗ (∃ d, owns (c : Thread nD τ) arg8 fullShare d) ∗ (∃ d, owns (c : Thread nD τ) (Memref.whole cc0_scratch1) fullShare d) ∗ (∃ d, owns (c : Thread nD τ) (Memref.whole cc0_scratch3) fullShare d)) -∗ K ⟨⟩))
      ⊢ wp frame (wpE (defs₀ (F := F)) Variants.none c none) Set.univ
          (cc0_fp8_wgrad i arg1 harg1 arg2 harg2 arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold owns
  iintro ⟨⟨%f2, %hf2, H2⟩, ⟨%d7, %f7, -, H7⟩, ⟨%d8, %f8, -, H8⟩, ⟨%e1, %g1, -, S1⟩, ⟨%e3, %g3, -, S3⟩, Hk⟩
  sl_exec
  sl_step
  iapply Hk
  isplitl [H2]
  · iexists _; isplitr; swap; · iexact H2
    ipureintro; exact hf2
  isplitl [H7]
  · iexists _, _; isplitr; swap; · iexact H7
    ipureintro; rfl
  isplitl [H8]
  · iexists _, _; isplitr; swap; · iexact H8
    ipureintro; rfl
  isplitl [S1]
  · iexists _, _; isplitr; swap; · iexact S1
    ipureintro; rfl
  iexists _, _; isplitr; swap; · iexact S3
  ipureintro; rfl

/-- A step after step 15: it multiplies the block of `dy` quantised one step before, adds the block of the main gradient, and quantises the next block of `dy`. -/
theorem run_late (c : Dev nD) (i : grid0.Coords) (h1 : ¬ k0_cond1 i = 1#1) (h2 : ¬ k0_cond2 i = 1#1) (h3 : k0_cond3 i = 1#1)
    (arg1 : Memref sig .tc .vmem S3072x256 .bf16) (harg1 : arg1.IsWhole) (arg2 : Memref sig .tc .vmem S3072x256 .bf16) (harg2 : arg2.IsWhole) (arg3 : Memref sig .tc .vmem S256x3840 .f32) (harg3 : arg3.IsWhole) (arg4 : Memref sig .tc .vmem S256x3840 .f32) (harg4 : arg4.IsWhole) (arg5 : Memref sig .tc .vmem S3072x256 .fp8e4m3) (harg5 : arg5.IsWhole) (arg6 : Memref sig .tc .vmem S1x3840 .f32) (harg6 : arg6.IsWhole) (arg7 : Memref sig .tc .vmem S3072x256 .fp8e5m2) (harg7 : arg7.IsWhole) (arg8 : Memref sig .tc .vmem S1x5632 .f32) (harg8 : arg8.IsWhole)
    (X2 : S3072x256.Idx → Elt F .bf16) (X3 : S256x3840.Idx → Elt F .f32) (K : PUnit → sProp 𝕄) :
    iprop(owns (c : Thread nD τ) arg2 fullShare X2 ∗ owns (c : Thread nD τ) arg3 fullShare X3 ∗ (∃ d, owns (c : Thread nD τ) arg4 fullShare d) ∗ (∃ d, owns (c : Thread nD τ) arg7 fullShare d) ∗ (∃ d, owns (c : Thread nD τ) arg8 fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)
        ∗ (iprop(owns (c : Thread nD τ) arg2 fullShare X2 ∗ owns (c : Thread nD τ) arg3 fullShare X3 ∗ (∃ d, owns (c : Thread nD τ) arg4 fullShare d) ∗ (∃ d, owns (c : Thread nD τ) arg7 fullShare d) ∗ (∃ d, owns (c : Thread nD τ) arg8 fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) -∗ K ⟨⟩))
      ⊢ wp frame (wpE (defs₀ (F := F)) Variants.none c none) Set.univ
          (cc0_fp8_wgrad i arg1 harg1 arg2 harg2 arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold owns
  iintro ⟨⟨%f2, %hf2, H2⟩, ⟨%f3, %hf3, H3⟩, ⟨%d4, %f4, -, H4⟩, ⟨%d7, %f7, -, H7⟩, ⟨%d8, %f8, -, H8⟩, ⟨%e0, %g0, -, S0⟩, ⟨%e1, %g1, -, S1⟩, ⟨%e2, %g2, -, S2⟩, ⟨%e3, %g3, -, S3⟩, Hk⟩
  sl_exec
  sl_step
  iapply Hk
  isplitl [H2]
  · iexists _; isplitr; swap; · iexact H2
    ipureintro; exact hf2
  isplitl [H3]
  · iexists _; isplitr; swap; · iexact H3
    ipureintro; exact hf3
  isplitl [H4]
  · iexists _, _; isplitr; swap; · iexact H4
    ipureintro; rfl
  isplitl [H7]
  · iexists _, _; isplitr; swap; · iexact H7
    ipureintro; rfl
  isplitl [H8]
  · iexists _, _; isplitr; swap; · iexact H8
    ipureintro; rfl
  isplitl [S0]
  · iexists _, _; isplitr; swap; · iexact S0
    ipureintro; rfl
  isplitl [S1]
  · iexists _, _; isplitr; swap; · iexact S1
    ipureintro; rfl
  isplitl [S2]
  · iexists _, _; isplitr; swap; · iexact S2
    ipureintro; rfl
  iexists _, _; isplitr; swap; · iexact S3
  ipureintro; rfl

/-! ## The proof data and the body's obligation -/

variable (m : (ℓ : Loc nD τ sig) → Buf (Elt F) ℓ) (ρ : Dev nD → PrngReg)

/-- The proof data on core `c`: the arrays as the region finds them; the body leaves the three inputs' blocks as it
    found them, and anything in the outputs' and in the scratch. -/
def rdat (c : Dev nD) : RDat τ (Elt F) Unit ℕ (UR sig nD τ) ℕ cfg0 c where
  A w := V m c (Pipeline.arrRef spec0 w)
  after w _ Y X := w.val < 3 → X = Y
  Φ _ := Pipeline.ΦA spec0 c
  q _ := fullShare
  owed _ := 0

/-- The class invariant conjunct by conjunct: the four scratch buffers at some contents, and the generator register. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  unfold Pipeline.ΦA; rw [scopedRest0_eq]; simp only [owns_whole]; try rfl

/-- What the body is called with at point `t`. -/
def bodyPre (c : Dev nD) (t : Fin cfg0.N) (Y : (w : Fin cfg0.W) → (cfg0.win w).block.Idx → Elt F (cfg0.win w).elt) : sProp 𝕄 :=
  iprop(Pipeline.ΦA spec0 c ∗ (rdat m c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7))
/-- What the body returns. -/
def bodyPost (c : Dev nD) (t : Fin cfg0.N) (Y : (w : Fin cfg0.W) → (cfg0.win w).block.Idx → Elt F (cfg0.win w).elt) : sProp 𝕄 :=
  iprop(Pipeline.ΦA spec0 c ∗ (rdat m c).owesAt () t.castSucc
    ∗ owns (c : Thread nD τ) (st0_0 t) fullShare (Y 0) ∗ owns (c : Thread nD τ) (st0_1 t) fullShare (Y 1) ∗ owns (c : Thread nD τ) (st0_2 t) fullShare (Y 2) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d))

/-- The body at a point, by the case the point is in. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [PhiA_eq]
  iintro ⟨⟨⟨S0, S1, S2, S3⟩, Hg⟩, HO, H0, H1, H2, H3, H4, H5, H6, H7⟩
  rcases lt_trichotomy ((grid0.coords t) 0).val 15 with h | h | h
  · iapply (run_early c (grid0.coords t) ((cond1_iff _).mpr (by omega)) ((cond2_iff _).not.mpr (by omega)) ((cond3_iff _).not.mpr (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Y 0) _)
    isplitl [H0]; · iexact H0
    isplitl [H4]; · iexists _; iexact H4
    isplitl [H5]; · iexists _; iexact H5
    isplitl [S0]; · iexact S0
    isplitl [S2]; · iexact S2
    iintro ⟨H0, H4, H5, S0, S2⟩
    isplitl [S0 S1 S2 S3 Hg]
    · isplitl [S0 S1 S2 S3]
      · isplitl [S0]; · iexact S0
        isplitl [S1]; · iexact S1
        isplitl [S2]; · iexact S2
        iexact S3
      iexact Hg
    isplitl [HO]; · iexact HO
    isplitl [H0]; · iexact H0
    isplitl [H1]; · iexact H1
    isplitl [H2]; · iexact H2
    isplitl [H3]; · iexists _; iexact H3
    isplitl [H4]; · iexact H4
    isplitl [H5]; · iexact H5
    isplitl [H6]; · iexists _; iexact H6
    iexists _; iexact H7
  · iapply (run_mid c (grid0.coords t) ((cond1_iff _).not.mpr (by omega)) ((cond2_iff _).mpr (by omega)) ((cond3_iff _).not.mpr (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Y 1) _)
    isplitl [H1]; · iexact H1
    isplitl [H6]; · iexists _; iexact H6
    isplitl [H7]; · iexists _; iexact H7
    isplitl [S1]; · iexact S1
    isplitl [S3]; · iexact S3
    iintro ⟨H1, H6, H7, S1, S3⟩
    isplitl [S0 S1 S2 S3 Hg]
    · isplitl [S0 S1 S2 S3]
      · isplitl [S0]; · iexact S0
        isplitl [S1]; · iexact S1
        isplitl [S2]; · iexact S2
        iexact S3
      iexact Hg
    isplitl [HO]; · iexact HO
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexact H6
    iexact H7
  · iapply (run_late c (grid0.coords t) ((cond1_iff _).not.mpr (by omega)) ((cond2_iff _).not.mpr (by omega)) ((cond3_iff _).mpr (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Y 1) (Y 2) _)
    isplitl [H1]; · iexact H1
    isplitl [H2]; · iexact H2
    isplitl [H3]; · iexists _; iexact H3
    isplitl [H6]; · iexists _; iexact H6
    isplitl [H7]; · iexists _; iexact H7
    isplitl [S0]; · iexact S0
    isplitl [S1]; · iexact S1
    isplitl [S2]; · iexact S2
    isplitl [S3]; · iexact S3
    iintro ⟨H1, H2, H3, H6, H7, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [HO]; · iexact HO
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : (rdat (F := F) m c).BodyObligation (defs₀ (F := F)) Variants.none () Set.univ := fun t Y _ => by
  rw [bigSep_W0, bigSep_W0, defs₀_row]
  refine triple_restated (sound_body m c t Y) rfl .rfl fun _ => ?_
  unfold bodyPost
  rw [show (rdat (F := F) m c).Φ t.succ = Pipeline.ΦA spec0 c from rfl]
  iintro ⟨HP, HO, H0, H1, H2, H3, H4, H5, H6, H7⟩
  isplitl [HP]; · iexact HP
  isplitl [HO]; · iexact HO
  isplitl [H0]
  · iexists _; isplitr; swap; · iexact H0
    ipureintro; exact fun _ => rfl
  isplitl [H1]
  · iexists _; isplitr; swap; · iexact H1
    ipureintro; exact fun _ => rfl
  isplitl [H2]
  · iexists _; isplitr; swap; · iexact H2
    ipureintro; exact fun _ => rfl
  isplitl [H3]
  · icases H3 with ⟨%d, H3⟩; iexists d; isplitr; swap; · iexact H3
    ipureintro; exact fun h => absurd h (by decide)
  isplitl [H4]
  · icases H4 with ⟨%d, H4⟩; iexists d; isplitr; swap; · iexact H4
    ipureintro; exact fun h => absurd h (by decide)
  isplitl [H5]
  · icases H5 with ⟨%d, H5⟩; iexists d; isplitr; swap; · iexact H5
    ipureintro; exact fun h => absurd h (by decide)
  isplitl [H6]
  · icases H6 with ⟨%d, H6⟩; iexists d; isplitr; swap; · iexact H6
    ipureintro; exact fun h => absurd h (by decide)
  icases H7 with ⟨%d, H7⟩; iexists d; isplitr; swap; · iexact H7
  ipureintro; exact fun h => absurd h (by decide)

/-! ## The launch -/

set_option backward.isDefEq.respectTransparency.types false in
/-- Every execution terminates; the arrays the kernel only reads, and every buffer it does not stage, end as they
    were, and the semaphores end at zero. -/
theorem run_main :
    θ_run defs (onTc (τ := τ) (main (F := F))) (s₀ m ρ)
      (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := fun _ _ => rfl) (hΦ := fun _ _ => rfl)

/-- The frame: every execution terminates with the arguments unchanged and the semaphores at zero. -/
theorem quiescent :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       (h.1.arr_in c 2 rfl).trans (V_main_arg2 m c)⟩, h.2⟩) (run_main m ρ)

end Cert.KernelIdeal.Run

end
-- ==== Proof.OffsetsK.lean ====
module

public import proofs.«01_k».proof.Proof.Gen.Kernel
public import Idealize.ShloMosaic.Lib.Tactic

/-! # The kernel's addresses in closed form

From step 15 on a step fills the slot `slot i` of the two double-buffered scratch arrays, and from
step 16 on it reads the slot `slotRead i` filled one step before. The offsets of every access to
those arrays are one of the two followed by literals; the 256 columns of the scale row written are
those of block `i - 15`. -/

@[expose] public section

namespace Cert.Kernel

open Idealize.ShloMosaic Idealize.ShloMosaic.TcCoe Idealize.ShloMosaic.Tactic

/-- The slot of the double-buffered scratch the step fills. -/
def slot (i : grid0.Coords) : Nat := k0_off4 i 0
/-- The slot of the double-buffered scratch the step reads. -/
def slotRead (i : grid0.Coords) : Nat := k0_off17 i 0
/-- The first column of the scale row's block the step fills. -/
def rowCol (i : grid0.Coords) : Nat := k0_off3 i 1

theorem slot_eq : ∀ i : grid0.Coords, 15 ≤ (i 0).val → slot i = ((i 0).val + 1) % 2 := by decide +kernel
theorem slotRead_eq : ∀ i : grid0.Coords, 16 ≤ (i 0).val → slotRead i = (i 0).val % 2 := by decide +kernel
theorem rowCol_eq : ∀ i : grid0.Coords, 15 ≤ (i 0).val → rowCol i = 256 * min ((i 0).val - 15) 21 := by decide +kernel

theorem cond1_iff : ∀ i : grid0.Coords, k0_cond1 i = 1#1 ↔ (i 0).val < 15 := by decide +kernel
theorem cond2_iff : ∀ i : grid0.Coords, k0_cond2 i = 1#1 ↔ (i 0).val = 15 := by decide +kernel
theorem cond3_iff : ∀ i : grid0.Coords, k0_cond3 i = 1#1 ↔ 15 < (i 0).val := by decide +kernel

instance (i : grid0.Coords) : ClosedOff (k0_off3 i) := ⟨![0, rowCol i], by revert i; decide +kernel⟩
instance (i : grid0.Coords) : ClosedOff (k0_off19 i) := ⟨![0, rowCol i], by revert i; decide +kernel⟩
instance (i : grid0.Coords) : ClosedOff (k0_off4 i) := ⟨![slot i, 0, 0], by revert i; decide +kernel⟩
instance (i : grid0.Coords) : ClosedOff (k0_off20 i) := ⟨![slot i, 0, 0], by revert i; decide +kernel⟩
instance (i : grid0.Coords) : ClosedOff (k0_off5 i) := ⟨![slot i, 0, 0], by revert i; decide +kernel⟩
instance (i : grid0.Coords) : ClosedOff (k0_off6 i) := ⟨![slot i, 0, 256], by revert i; decide +kernel⟩
instance (i : grid0.Coords) : ClosedOff (k0_off7 i) := ⟨![slot i, 0, 512], by revert i; decide +kernel⟩
instance (i : grid0.Coords) : ClosedOff (k0_off8 i) := ⟨![slot i, 0, 768], by revert i; decide +kernel⟩
instance (i : grid0.Coords) : ClosedOff (k0_off9 i) := ⟨![slot i, 0, 1024], by revert i; decide +kernel⟩
instance (i : grid0.Coords) : ClosedOff (k0_off10 i) := ⟨![slot i, 0, 1280], by revert i; decide +kernel⟩
instance (i : grid0.Coords) : ClosedOff (k0_off11 i) := ⟨![slot i, 0, 1536], by revert i; decide +kernel⟩
instance (i : grid0.Coords) : ClosedOff (k0_off12 i) := ⟨![slot i, 0, 1792], by revert i; decide +kernel⟩
instance (i : grid0.Coords) : ClosedOff (k0_off13 i) := ⟨![slot i, 0, 2048], by revert i; decide +kernel⟩
instance (i : grid0.Coords) : ClosedOff (k0_off14 i) := ⟨![slot i, 0, 2304], by revert i; decide +kernel⟩
instance (i : grid0.Coords) : ClosedOff (k0_off15 i) := ⟨![slot i, 0, 2560], by revert i; decide +kernel⟩
instance (i : grid0.Coords) : ClosedOff (k0_off16 i) := ⟨![slot i, 0, 2816], by revert i; decide +kernel⟩
instance (i : grid0.Coords) : ClosedOff (k0_off21 i) := ⟨![slot i, 0, 0], by revert i; decide +kernel⟩
instance (i : grid0.Coords) : ClosedOff (k0_off22 i) := ⟨![slot i, 0, 256], by revert i; decide +kernel⟩
instance (i : grid0.Coords) : ClosedOff (k0_off23 i) := ⟨![slot i, 0, 512], by revert i; decide +kernel⟩
instance (i : grid0.Coords) : ClosedOff (k0_off24 i) := ⟨![slot i, 0, 768], by revert i; decide +kernel⟩
instance (i : grid0.Coords) : ClosedOff (k0_off25 i) := ⟨![slot i, 0, 1024], by revert i; decide +kernel⟩
instance (i : grid0.Coords) : ClosedOff (k0_off26 i) := ⟨![slot i, 0, 1280], by revert i; decide +kernel⟩
instance (i : grid0.Coords) : ClosedOff (k0_off27 i) := ⟨![slot i, 0, 1536], by revert i; decide +kernel⟩
instance (i : grid0.Coords) : ClosedOff (k0_off28 i) := ⟨![slot i, 0, 1792], by revert i; decide +kernel⟩
instance (i : grid0.Coords) : ClosedOff (k0_off29 i) := ⟨![slot i, 0, 2048], by revert i; decide +kernel⟩
instance (i : grid0.Coords) : ClosedOff (k0_off30 i) := ⟨![slot i, 0, 2304], by revert i; decide +kernel⟩
instance (i : grid0.Coords) : ClosedOff (k0_off31 i) := ⟨![slot i, 0, 2560], by revert i; decide +kernel⟩
instance (i : grid0.Coords) : ClosedOff (k0_off32 i) := ⟨![slot i, 0, 2816], by revert i; decide +kernel⟩
instance (i : grid0.Coords) : ClosedOff (k0_off17 i) := ⟨![slotRead i, 0, 0], by revert i; decide +kernel⟩
instance (i : grid0.Coords) : ClosedOff (k0_off18 i) := ⟨![slotRead i, 0, 0], by revert i; decide +kernel⟩

end Cert.Kernel
end
-- ==== Proof.FrameRunK.lean ====
module

public import proofs.«01_k».proof.Proof.Gen.Kernel.Frame
public import proofs.«01_k».proof.Proof.Gen.Kernel.Skeleton
public import proofs.«01_k».proof.Proof.OffsetsK
public import Idealize.ShloMosaic.Lib.Pipeline.Frame
public import Idealize.ShloMosaic.Lib.Tactic

/-! # The kernel runs safely and leaves its arguments alone

The body of one grid step is run once for each of its three cases: a step before step 15 quantises
a block of `x`; step 15 quantises the first block of `dy`; a later step multiplies the block of `dy`
quantised before it and quantises the next. Nothing is said here of what is written: the outputs and
the scratch are held at some contents. The pipeline's run theorem then gives the frame. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig Unit (Elt F) ℕ (UR sig nD τ) ℕ

/-- A step before step 15: it reads the block of `x` and writes its codes and its scales. -/
theorem run_early (c : Dev nD) (i : grid0.Coords) (h1 : k0_cond1 i = 1#1) (h2 : ¬ k0_cond2 i = 1#1) (h3 : ¬ k0_cond3 i = 1#1)
    (arg1 : Memref sig .tc .vmem S3072x256 .bf16) (harg1 : arg1.IsWhole) (arg2 : Memref sig .tc .vmem S3072x256 .bf16) (harg2 : arg2.IsWhole) (arg3 : Memref sig .tc .vmem S256x3840 .f32) (harg3 : arg3.IsWhole) (arg4 : Memref sig .tc .vmem S256x3840 .f32) (harg4 : arg4.IsWhole) (arg5 : Memref sig .tc .vmem S3072x256 .fp8e4m3) (harg5 : arg5.IsWhole) (arg6 : Memref sig .tc .vmem S1x3840 .f32) (harg6 : arg6.IsWhole) (arg7 : Memref sig .tc .vmem S3072x256 .fp8e5m2) (harg7 : arg7.IsWhole) (arg8 : Memref sig .tc .vmem S1x5632 .f32) (harg8 : arg8.IsWhole)
    (X1 : S3072x256.Idx → Elt F .bf16) (K : PUnit → sProp 𝕄) :
    iprop(owns (c : Thread nD τ) arg1 fullShare X1 ∗ (∃ d, owns (c : Thread nD τ) arg5 fullShare d) ∗ (∃ d, owns (c : Thread nD τ) arg6 fullShare d) ∗ (∃ d, owns (c : Thread nD τ) (Memref.whole cc0_scratch0) fullShare d) ∗ (∃ d, owns (c : Thread nD τ) (Memref.whole cc0_scratch2) fullShare d)
        ∗ (iprop(owns (c : Thread nD τ) arg1 fullShare X1 ∗ (∃ d, owns (c : Thread nD τ) arg5 fullShare d) ∗ (∃ d, owns (c : Thread nD τ) arg6 fullShare d) ∗ (∃ d, owns (c : Thread nD τ) (Memref.whole cc0_scratch0) fullShare d) ∗ (∃ d, owns (c : Thread nD τ) (Memref.whole cc0_scratch2) fullShare d)) -∗ K ⟨⟩))
      ⊢ wp frame (wpE (defs₀ (F := F)) Variants.none c none) Set.univ
          (cc0_fp8_wgrad i arg1 harg1 arg2 harg2 arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold owns
  iintro ⟨⟨%f1, %hf1, H1⟩, ⟨%d5, %f5, -, H5⟩, ⟨%d6, %f6, -, H6⟩, ⟨%e0, %g0, -, S0⟩, ⟨%e2, %g2, -, S2⟩, Hk⟩
  sl_exec
  sl_step
  iapply Hk
  isplitl [H1]
  · iexists _; isplitr; swap; · iexact H1
    ipureintro; exact hf1
  isplitl [H5]
  · iexists _, _; isplitr; swap; · iexact H5
    ipureintro; rfl
  isplitl [H6]
  · iexists _, _; isplitr; swap; · iexact H6
    ipureintro; rfl
  isplitl [S0]
  · iexists _, _; isplitr; swap; · iexact S0
    ipureintro; rfl
  iexists _, _; isplitr; swap; · iexact S2
  ipureintro; rfl

/-- Step 15: it reads the first block of `dy` and writes its codes and its scales. -/
theorem run_mid (c : Dev nD) (i : grid0.Coords) (h1 : ¬ k0_cond1 i = 1#1) (h2 : k0_cond2 i = 1#1) (h3 : ¬ k0_cond3 i = 1#1)
    (arg1 : Memref sig .tc .vmem S3072x256 .bf16) (harg1 : arg1.IsWhole) (arg2 : Memref sig .tc .vmem S3072x256 .bf16) (harg2 : arg2.IsWhole) (arg3 : Memref sig .tc .vmem S256x3840 .f32) (harg3 : arg3.IsWhole) (arg4 : Memref sig .tc .vmem S256x3840 .f32) (harg4 : arg4.IsWhole) (arg5 : Memref sig .tc .vmem S3072x256 .fp8e4m3) (harg5 : arg5.IsWhole) (arg6 : Memref sig .tc .vmem S1x3840 .f32) (harg6 : arg6.IsWhole) (arg7 : Memref sig .tc .vmem S3072x256 .fp8e5m2) (harg7 : arg7.IsWhole) (arg8 : Memref sig .tc .vmem S1x5632 .f32) (harg8 : arg8.IsWhole)
    (X2 : S3072x256.Idx → Elt F .bf16) (K : PUnit → sProp 𝕄) :
    iprop(owns (c : Thread nD τ) arg2 fullShare X2 ∗ (∃ d, owns (c : Thread nD τ) arg7 fullShare d) ∗ (∃ d, owns (c : Thread nD τ) arg8 fullShare d) ∗ (∃ d, owns (c : Thread nD τ) (Memref.whole cc0_scratch1) fullShare d) ∗ (∃ d, owns (c : Thread nD τ) (Memref.whole cc0_scratch3) fullShare d)
        ∗ (iprop(owns (c : Thread nD τ) arg2 fullShare X2 ∗ (∃ d, owns (c : Thread nD τ) arg7 fullShare d) ∗ (∃ d, owns (c : Thread nD τ) arg8 fullShare d) ∗ (∃ d, owns (c : Thread nD τ) (Memref.whole cc0_scratch1) fullShare d) ∗ (∃ d, owns (c : Thread nD τ) (Memref.whole cc0_scratch3) fullShare d)) -∗ K ⟨⟩))
      ⊢ wp frame (wpE (defs₀ (F := F)) Variants.none c none) Set.univ
          (cc0_fp8_wgrad i arg1 harg1 arg2 harg2 arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold owns
  iintro ⟨⟨%f2, %hf2, H2⟩, ⟨%d7, %f7, -, H7⟩, ⟨%d8, %f8, -, H8⟩, ⟨%e1, %g1, -, S1⟩, ⟨%e3, %g3, -, S3⟩, Hk⟩
  sl_exec
  sl_step
  iapply Hk
  isplitl [H2]
  · iexists _; isplitr; swap; · iexact H2
    ipureintro; exact hf2
  isplitl [H7]
  · iexists _, _; isplitr; swap; · iexact H7
    ipureintro; rfl
  isplitl [H8]
  · iexists _, _; isplitr; swap; · iexact H8
    ipureintro; rfl
  isplitl [S1]
  · iexists _, _; isplitr; swap; · iexact S1
    ipureintro; rfl
  iexists _, _; isplitr; swap; · iexact S3
  ipureintro; rfl

/-- A step after step 15: it multiplies the block of `dy` quantised one step before, adds the block of the main gradient, and quantises the next block of `dy`. -/
theorem run_late (c : Dev nD) (i : grid0.Coords) (h1 : ¬ k0_cond1 i = 1#1) (h2 : ¬ k0_cond2 i = 1#1) (h3 : k0_cond3 i = 1#1)
    (arg1 : Memref sig .tc .vmem S3072x256 .bf16) (harg1 : arg1.IsWhole) (arg2 : Memref sig .tc .vmem S3072x256 .bf16) (harg2 : arg2.IsWhole) (arg3 : Memref sig .tc .vmem S256x3840 .f32) (harg3 : arg3.IsWhole) (arg4 : Memref sig .tc .vmem S256x3840 .f32) (harg4 : arg4.IsWhole) (arg5 : Memref sig .tc .vmem S3072x256 .fp8e4m3) (harg5 : arg5.IsWhole) (arg6 : Memref sig .tc .vmem S1x3840 .f32) (harg6 : arg6.IsWhole) (arg7 : Memref sig .tc .vmem S3072x256 .fp8e5m2) (harg7 : arg7.IsWhole) (arg8 : Memref sig .tc .vmem S1x5632 .f32) (harg8 : arg8.IsWhole)
    (X2 : S3072x256.Idx → Elt F .bf16) (X3 : S256x3840.Idx → Elt F .f32) (K : PUnit → sProp 𝕄) :
    iprop(owns (c : Thread nD τ) arg2 fullShare X2 ∗ owns (c : Thread nD τ) arg3 fullShare X3 ∗ (∃ d, owns (c : Thread nD τ) arg4 fullShare d) ∗ (∃ d, owns (c : Thread nD τ) arg7 fullShare d) ∗ (∃ d, owns (c : Thread nD τ) arg8 fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)
        ∗ (iprop(owns (c : Thread nD τ) arg2 fullShare X2 ∗ owns (c : Thread nD τ) arg3 fullShare X3 ∗ (∃ d, owns (c : Thread nD τ) arg4 fullShare d) ∗ (∃ d, owns (c : Thread nD τ) arg7 fullShare d) ∗ (∃ d, owns (c : Thread nD τ) arg8 fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) -∗ K ⟨⟩))
      ⊢ wp frame (wpE (defs₀ (F := F)) Variants.none c none) Set.univ
          (cc0_fp8_wgrad i arg1 harg1 arg2 harg2 arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold owns
  iintro ⟨⟨%f2, %hf2, H2⟩, ⟨%f3, %hf3, H3⟩, ⟨%d4, %f4, -, H4⟩, ⟨%d7, %f7, -, H7⟩, ⟨%d8, %f8, -, H8⟩, ⟨%e0, %g0, -, S0⟩, ⟨%e1, %g1, -, S1⟩, ⟨%e2, %g2, -, S2⟩, ⟨%e3, %g3, -, S3⟩, Hk⟩
  sl_exec
  sl_step
  iapply Hk
  isplitl [H2]
  · iexists _; isplitr; swap; · iexact H2
    ipureintro; exact hf2
  isplitl [H3]
  · iexists _; isplitr; swap; · iexact H3
    ipureintro; exact hf3
  isplitl [H4]
  · iexists _, _; isplitr; swap; · iexact H4
    ipureintro; rfl
  isplitl [H7]
  · iexists _, _; isplitr; swap; · iexact H7
    ipureintro; rfl
  isplitl [H8]
  · iexists _, _; isplitr; swap; · iexact H8
    ipureintro; rfl
  isplitl [S0]
  · iexists _, _; isplitr; swap; · iexact S0
    ipureintro; rfl
  isplitl [S1]
  · iexists _, _; isplitr; swap; · iexact S1
    ipureintro; rfl
  isplitl [S2]
  · iexists _, _; isplitr; swap; · iexact S2
    ipureintro; rfl
  iexists _, _; isplitr; swap; · iexact S3
  ipureintro; rfl

/-! ## The proof data and the body's obligation -/

variable (m : (ℓ : Loc nD τ sig) → Buf (Elt F) ℓ) (ρ : Dev nD → PrngReg)

/-- The proof data on core `c`: the arrays as the region finds them; the body leaves the three inputs' blocks as it
    found them, and anything in the outputs' and in the scratch. -/
def rdat (c : Dev nD) : RDat τ (Elt F) Unit ℕ (UR sig nD τ) ℕ cfg0 c where
  A w := V m c (Pipeline.arrRef spec0 w)
  after w _ Y X := w.val < 3 → X = Y
  Φ _ := Pipeline.ΦA spec0 c
  q _ := fullShare
  owed _ := 0

/-- The class invariant conjunct by conjunct: the four scratch buffers at some contents, and the generator register. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  unfold Pipeline.ΦA; rw [scopedRest0_eq]; simp only [owns_whole]; try rfl

/-- What the body is called with at point `t`. -/
def bodyPre (c : Dev nD) (t : Fin cfg0.N) (Y : (w : Fin cfg0.W) → (cfg0.win w).block.Idx → Elt F (cfg0.win w).elt) : sProp 𝕄 :=
  iprop(Pipeline.ΦA spec0 c ∗ (rdat m c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7))
/-- What the body returns. -/
def bodyPost (c : Dev nD) (t : Fin cfg0.N) (Y : (w : Fin cfg0.W) → (cfg0.win w).block.Idx → Elt F (cfg0.win w).elt) : sProp 𝕄 :=
  iprop(Pipeline.ΦA spec0 c ∗ (rdat m c).owesAt () t.castSucc
    ∗ owns (c : Thread nD τ) (st0_0 t) fullShare (Y 0) ∗ owns (c : Thread nD τ) (st0_1 t) fullShare (Y 1) ∗ owns (c : Thread nD τ) (st0_2 t) fullShare (Y 2) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d))

/-- The body at a point, by the case the point is in. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [PhiA_eq]
  iintro ⟨⟨⟨S0, S1, S2, S3⟩, Hg⟩, HO, H0, H1, H2, H3, H4, H5, H6, H7⟩
  rcases lt_trichotomy ((grid0.coords t) 0).val 15 with h | h | h
  · iapply (run_early c (grid0.coords t) ((cond1_iff _).mpr (by omega)) ((cond2_iff _).not.mpr (by omega)) ((cond3_iff _).not.mpr (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Y 0) _)
    isplitl [H0]; · iexact H0
    isplitl [H4]; · iexists _; iexact H4
    isplitl [H5]; · iexists _; iexact H5
    isplitl [S0]; · iexact S0
    isplitl [S2]; · iexact S2
    iintro ⟨H0, H4, H5, S0, S2⟩
    isplitl [S0 S1 S2 S3 Hg]
    · isplitl [S0 S1 S2 S3]
      · isplitl [S0]; · iexact S0
        isplitl [S1]; · iexact S1
        isplitl [S2]; · iexact S2
        iexact S3
      iexact Hg
    isplitl [HO]; · iexact HO
    isplitl [H0]; · iexact H0
    isplitl [H1]; · iexact H1
    isplitl [H2]; · iexact H2
    isplitl [H3]; · iexists _; iexact H3
    isplitl [H4]; · iexact H4
    isplitl [H5]; · iexact H5
    isplitl [H6]; · iexists _; iexact H6
    iexists _; iexact H7
  · iapply (run_mid c (grid0.coords t) ((cond1_iff _).not.mpr (by omega)) ((cond2_iff _).mpr (by omega)) ((cond3_iff _).not.mpr (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Y 1) _)
    isplitl [H1]; · iexact H1
    isplitl [H6]; · iexists _; iexact H6
    isplitl [H7]; · iexists _; iexact H7
    isplitl [S1]; · iexact S1
    isplitl [S3]; · iexact S3
    iintro ⟨H1, H6, H7, S1, S3⟩
    isplitl [S0 S1 S2 S3 Hg]
    · isplitl [S0 S1 S2 S3]
      · isplitl [S0]; · iexact S0
        isplitl [S1]; · iexact S1
        isplitl [S2]; · iexact S2
        iexact S3
      iexact Hg
    isplitl [HO]; · iexact HO
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexact H6
    iexact H7
  · iapply (run_late c (grid0.coords t) ((cond1_iff _).not.mpr (by omega)) ((cond2_iff _).not.mpr (by omega)) ((cond3_iff _).mpr (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Y 1) (Y 2) _)
    isplitl [H1]; · iexact H1
    isplitl [H2]; · iexact H2
    isplitl [H3]; · iexists _; iexact H3
    isplitl [H6]; · iexists _; iexact H6
    isplitl [H7]; · iexists _; iexact H7
    isplitl [S0]; · iexact S0
    isplitl [S1]; · iexact S1
    isplitl [S2]; · iexact S2
    isplitl [S3]; · iexact S3
    iintro ⟨H1, H2, H3, H6, H7, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [HO]; · iexact HO
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : (rdat (F := F) m c).BodyObligation (defs₀ (F := F)) Variants.none () Set.univ := fun t Y _ => by
  rw [bigSep_W0, bigSep_W0, defs₀_row]
  refine triple_restated (sound_body m c t Y) rfl .rfl fun _ => ?_
  unfold bodyPost
  rw [show (rdat (F := F) m c).Φ t.succ = Pipeline.ΦA spec0 c from rfl]
  iintro ⟨HP, HO, H0, H1, H2, H3, H4, H5, H6, H7⟩
  isplitl [HP]; · iexact HP
  isplitl [HO]; · iexact HO
  isplitl [H0]
  · iexists _; isplitr; swap; · iexact H0
    ipureintro; exact fun _ => rfl
  isplitl [H1]
  · iexists _; isplitr; swap; · iexact H1
    ipureintro; exact fun _ => rfl
  isplitl [H2]
  · iexists _; isplitr; swap; · iexact H2
    ipureintro; exact fun _ => rfl
  isplitl [H3]
  · icases H3 with ⟨%d, H3⟩; iexists d; isplitr; swap; · iexact H3
    ipureintro; exact fun h => absurd h (by decide)
  isplitl [H4]
  · icases H4 with ⟨%d, H4⟩; iexists d; isplitr; swap; · iexact H4
    ipureintro; exact fun h => absurd h (by decide)
  isplitl [H5]
  · icases H5 with ⟨%d, H5⟩; iexists d; isplitr; swap; · iexact H5
    ipureintro; exact fun h => absurd h (by decide)
  isplitl [H6]
  · icases H6 with ⟨%d, H6⟩; iexists d; isplitr; swap; · iexact H6
    ipureintro; exact fun h => absurd h (by decide)
  icases H7 with ⟨%d, H7⟩; iexists d; isplitr; swap; · iexact H7
  ipureintro; exact fun h => absurd h (by decide)

/-! ## The launch -/

set_option backward.isDefEq.respectTransparency.types false in
/-- Every execution terminates; the arrays the kernel only reads, and every buffer it does not stage, end as they
    were, and the semaphores end at zero. -/
theorem run_main :
    θ_run defs (onTc (τ := τ) (main (F := F))) (s₀ m ρ)
      (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := fun _ _ => rfl) (hΦ := fun _ _ => rfl)

/-- The frame: every execution terminates with the arguments unchanged and the semaphores at zero. -/
theorem quiescent :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       (h.1.arr_in c 2 rfl).trans (V_main_arg2 m c)⟩, h.2⟩) (run_main m ρ)

end Cert.Kernel.Run

end
-- ==== Proof.Quant.lean ====
module

public import proofs.«01_k».proof.Proof.Gen.KernelIdeal.Frame
public import proofs.«01_k».proof.Proof.Gen.KernelIdeal.Skeleton
public import Idealize.ShloMosaic.Lib.ValueIdxCore
public import Idealize.ShloMosaic.Lib.WritesUnit
public import Idealize.ShloMosaic.Lib.VecWindow
public import Idealize.ShloMosaic.Lib.Pipeline.Value

/-! # The kernel's quantiser, as functions of a block

What the kernel's body computes of a block of 256 channels, over any floats: the running maximum of
the magnitudes of 192 groups of 16 rows, the ratio, the search for its exponent field, the scale and
its inverse, and the codes of 128 rows. The same functions serve the block of `x` and the blocks of
`dy`; the three places where the body runs the quantiser are compared with them by unfolding. -/

@[expose] public section

set_option maxRecDepth 16384

noncomputable section

namespace Cert.KernelIdeal.Quant

open Cert.KernelIdeal Cert.KernelIdeal.Gen
open Idealize.ShloMosaic Idealize.ShloMosaic.TcCoe

variable {F : FTy → Type} [FloatOps F]

/-! ## The pieces of a block -/

/-- Group `k` of 16 rows lies in the block. -/
theorem inb16 (k : ℕ) : ∀ a, (![16 * (k % 192), 0] : Fin 2 → Nat) a + S16x256.size a ≤ S3072x256.size a :=
  Fin.forall_fin_two.mpr ⟨by show 16 * (k % 192) + 16 ≤ 3072; omega, Nat.le_refl 256⟩

/-- Group `k` of 16 rows of a block. -/
def grp (X : S3072x256.Idx → F .bf16) (k : ℕ) : Vec F S16x256 .bf16 :=
  fun x => X ((Rect.unit (s := S3072x256) ![16 * (k % 192), 0] S16x256.size (inb16 k)).toLoadRect.idx x)

/-- The running maximum of the magnitudes of the groups up to group `n`. -/
def runMax (b : ℕ → Vec F S16x256 .bf16) : ℕ → FVec F S16x256 .bf16
  | 0 => absf (shapeCast S16x256 (b 0) shapeCasts_S16x256_S16x256)
  | n + 1 => maximumf (runMax b n) (absf (shapeCast S16x256 (b (n + 1)) shapeCasts_S16x256_S16x256))

/-- The ratio of each channel: its greatest magnitude times the constant of bits `k`. -/
def ratio (k : BitVec 32) (b : ℕ → Vec F S16x256 .bf16) : FVec F S1x256 .f32 :=
  mulf (shapeCast S1x256
      (multiReduction .maximumf [0] S256 (extf .f32 (runMax b 191) bitsLt_bf16_f32) 0xFF800000#32 reduces_S16x256_S256 (.inl rfl) rfl)
      shapeCasts_S256_S1x256)
    (broadcast S1x256 (Scalar.ofBits .f32 k))

/-- The floats whose exponent fields are `w`. -/
def powerV (w : IVec S1x256 32) : FVec F S1x256 .f32 := bitcastToFloat .f32 (shli w (broadcast S1x256 23#32))

/-- One step of the search for the exponent fields. -/
def stepV (ρ : FVec F S1x256 .f32) (w : IVec S1x256 32) (bit : BitVec 32) : IVec S1x256 32 :=
  select (cmpf .oge ρ (powerV (ori w (broadcast S1x256 bit)))) (ori w (broadcast S1x256 bit)) w

/-- The exponent fields found for the ratios. -/
def searchV (ρ : FVec F S1x256 .f32) : IVec S1x256 32 :=
  stepV ρ (stepV ρ (stepV ρ (stepV ρ (stepV ρ (stepV ρ (stepV ρ (stepV ρ (broadcast S1x256 0#32)
    128#32) 64#32) 32#32) 16#32) 8#32) 4#32) 2#32) 1#32

/-- The exponents of the scales. -/
def expV (ρ : FVec F S1x256 .f32) : IVec S1x256 32 :=
  select (ori (cmpi .eq (searchV ρ) (broadcast S1x256 0#32)) (cmpi .eq (searchV ρ) (broadcast S1x256 255#32)))
    (broadcast S1x256 0#32) (subi (searchV ρ) (broadcast S1x256 126#32))

/-- The scales. -/
def scaleV (ρ : FVec F S1x256 .f32) : FVec F S1x256 .f32 := powerV (addi (expV ρ) (broadcast S1x256 127#32))

/-- The inverses of the scales. -/
def invV (ρ : FVec F S1x256 .f32) : FVec F S1x256 .bf16 :=
  truncf .bf16 (powerV (subi (broadcast S1x256 127#32) (expV ρ))) bitsLt_bf16_f32

/-- The codes of 128 rows of a block of `x`. -/
def codesX (inv : FVec F S1x256 .bf16) (v : Vec F S128x256 .bf16) : FVec F S128x256 .fp8e4m3 :=
  truncf .fp8e4m3
    (minimumf (broadcast S128x256 (Scalar.ofBits .bf16 0x43E0#16))
      (maximumf (broadcast S128x256 (Scalar.ofBits .bf16 0xC3E0#16))
        (mulf (shapeCast S128x256 v shapeCasts_S128x256_S128x256) (broadcastTo S128x256 inv broadcasts_S1x256_S128x256))))
    bitsLt_fp8e4m3_bf16

/-- The codes of 128 rows of a block of `dy`. -/
def codesDy (inv : FVec F S1x256 .bf16) (v : Vec F S128x256 .bf16) : FVec F S128x256 .fp8e5m2 :=
  truncf .fp8e5m2
    (minimumf (broadcast S128x256 (Scalar.ofBits .bf16 0x4760#16))
      (maximumf (broadcast S128x256 (Scalar.ofBits .bf16 0xC760#16))
        (mulf (shapeCast S128x256 v shapeCasts_S128x256_S128x256) (broadcastTo S128x256 inv broadcasts_S1x256_S128x256))))
    bitsLt_fp8e5m2_bf16

/-- The scales and the inverses of a block of `x`. -/
abbrev scaleX (X : S3072x256.Idx → F .bf16) : FVec F S1x256 .f32 := scaleV (ratio 0x3B124925#32 (grp X))
@[inherit_doc scaleX] abbrev invX (X : S3072x256.Idx → F .bf16) : FVec F S1x256 .bf16 := invV (ratio 0x3B124925#32 (grp X))

/-- The scales and the inverses of a block of `dy`. -/
abbrev scaleDy (X : S3072x256.Idx → F .bf16) : FVec F S1x256 .f32 := scaleV (ratio 0x37924925#32 (grp X))
@[inherit_doc scaleDy] abbrev invDy (X : S3072x256.Idx → F .bf16) : FVec F S1x256 .bf16 := invV (ratio 0x37924925#32 (grp X))

/-! ## The codes of a whole block -/

/-- One code of a block of `x`. -/
def codeX (a b : F .bf16) : F .fp8e4m3 :=
  FloatOps.truncf .fp8e4m3 bitsLt_fp8e4m3_bf16 (FloatOps.minimumf (Scalar.ofBits .bf16 0x43E0#16) (FloatOps.maximumf (Scalar.ofBits .bf16 0xC3E0#16) (FloatOps.mulf a b)))

/-- One code of a block of `dy`. -/
def codeDy (a b : F .bf16) : F .fp8e5m2 :=
  FloatOps.truncf .fp8e5m2 bitsLt_fp8e5m2_bf16 (FloatOps.minimumf (Scalar.ofBits .bf16 0x4760#16) (FloatOps.maximumf (Scalar.ofBits .bf16 0xC760#16) (FloatOps.mulf a b)))

/-- The codes of a block of `x`, given the inverses of the scales. -/
def blockX (X : S3072x256.Idx → F .bf16) (inv : FVec F S1x256 .bf16) : S3072x256.Idx → F .fp8e4m3 :=
  fun y => codeX (X y) (inv (ValueIdx.ix2 0 (y 1)))

/-- The codes of a block of `dy`, given the inverses of the scales. -/
def blockDy (X : S3072x256.Idx → F .bf16) (inv : FVec F S1x256 .bf16) : S3072x256.Idx → F .fp8e5m2 :=
  fun y => codeDy (X y) (inv (ValueIdx.ix2 0 (y 1)))

/-- A row of values copied down 128 rows, read at an index. -/
theorem copied_apply {α : Type} (inv : S1x256.Idx → α) (x : S128x256.Idx) :
    broadcastTo S128x256 inv broadcasts_S1x256_S128x256 x = inv (ValueIdx.ix2 0 (x 1)) := by
  refine broadcastTo_apply _ _ _ _ fun a => ?_
  match a with
  | ⟨0, _⟩ => rfl
  | ⟨1, _⟩ => rfl

/-- The codes of 128 rows are the codes of the block there. -/
theorem codesX_rows (X : S3072x256.Idx → F .bf16) (inv : FVec F S1x256 .bf16) (o : ℕ)
    (h : ∀ a, (![o, 0] : Fin 2 → Nat) a + S128x256.size a ≤ S3072x256.size a) (x : S128x256.Idx) :
    codesX inv (fun x => X ((Rect.unit (s := S3072x256) ![o, 0] S128x256.size h).toLoadRect.idx x)) x
      = blockX X inv ((Rect.unit (s := S3072x256) ![o, 0] S128x256.size h).emb x) := by
  unfold codesX blockX codeX
  rw [shapeCast_self]
  show FloatOps.truncf _ _ (FloatOps.minimumf _ (FloatOps.maximumf _ (FloatOps.mulf _ (broadcastTo S128x256 inv broadcasts_S1x256_S128x256 x)))) = _
  rw [copied_apply]
  have e : (ValueIdx.ix2 0 (x 1) : S1x256.Idx) = ValueIdx.ix2 0 ((Rect.unit (s := S3072x256) ![o, 0] S128x256.size h).emb x 1) := by
    refine funext fun a => Fin.ext ?_
    match a with
    | ⟨0, _⟩ => rfl
    | ⟨1, _⟩ => show (x 1).val = 0 + 1 * (x 1).val; omega
  rw [e]
  rfl

/-- The codes of 128 rows are the codes of the block there. -/
theorem codesDy_rows (X : S3072x256.Idx → F .bf16) (inv : FVec F S1x256 .bf16) (o : ℕ)
    (h : ∀ a, (![o, 0] : Fin 2 → Nat) a + S128x256.size a ≤ S3072x256.size a) (x : S128x256.Idx) :
    codesDy inv (fun x => X ((Rect.unit (s := S3072x256) ![o, 0] S128x256.size h).toLoadRect.idx x)) x
      = blockDy X inv ((Rect.unit (s := S3072x256) ![o, 0] S128x256.size h).emb x) := by
  unfold codesDy blockDy codeDy
  rw [shapeCast_self]
  show FloatOps.truncf _ _ (FloatOps.minimumf _ (FloatOps.maximumf _ (FloatOps.mulf _ (broadcastTo S128x256 inv broadcasts_S1x256_S128x256 x)))) = _
  rw [copied_apply]
  have e : (ValueIdx.ix2 0 (x 1) : S1x256.Idx) = ValueIdx.ix2 0 ((Rect.unit (s := S3072x256) ![o, 0] S128x256.size h).emb x 1) := by
    refine funext fun a => Fin.ext ?_
    match a with
    | ⟨0, _⟩ => rfl
    | ⟨1, _⟩ => show (x 1).val = 0 + 1 * (x 1).val; omega
  rw [e]
  rfl

/-! ## Stores into a part of a buffer -/

/-- A buffer of rows of values with `W` columns from column `o` replaced. -/
def patchCols {α : Type} {R C W : ℕ} (o : ℕ) (d : (⟨2, ![R, C]⟩ : Shape).Idx → α) (p : (⟨2, ![R, W]⟩ : Shape).Idx → α) :
    (⟨2, ![R, C]⟩ : Shape).Idx → α :=
  fun y => if h : o ≤ (y 1).val ∧ (y 1).val < o + W then p (ValueIdx.ix2 (y 0) ⟨(y 1).val - o, by omega⟩) else d y

/-- A store over some columns leaves the buffer with those columns replaced. -/
theorem read_patchCols {e : EltTy} {R C W : ℕ} {sp : Space} (v : View sig .tc sp (⟨2, ![R, C]⟩ : Shape) e) (f : v.ty.Contents (Elt F))
    {off : Fin 2 → ℕ} (o : ℕ) (h : off = ![0, o]) (inb : ∀ a, off a + (![R, W] : Fin 2 → ℕ) a ≤ (⟨2, ![R, C]⟩ : Shape).size a)
    (p : (⟨2, ![R, W]⟩ : Shape).Idx → Elt F e) :
    v.read (Elt F) (v.writes (Elt F) f [(⟨Rect.unit (s := ⟨2, ![R, C]⟩) off ![R, W] inb, p⟩ : View.Piece (Elt F) (⟨2, ![R, C]⟩ : Shape) e)])
      = patchCols o (v.read (Elt F) f) p := by
  funext y
  by_cases hc : o ≤ (y 1).val ∧ (y 1).val < o + W
  · rw [View.read_writes_cons_unit_of_mem v f inb p [] y (ValueIdx.ix2 (y 0) ⟨(y 1).val - o, by omega⟩) h ?_]
    · unfold patchCols; rw [dif_pos hc]
    · intro a
      match a with
      | ⟨0, _⟩ => show (y 0).val = 0 + (y 0).val; omega
      | ⟨1, _⟩ => show (y 1).val = o + ((y 1).val - o); omega
  · rw [View.read_writes_cons_unit_of_not_mem v f inb p [] y h 1 (by show (y 1).val < o ∨ o + W ≤ (y 1).val; omega)]
    unfold patchCols; rw [dif_neg hc]; rfl

end Cert.KernelIdeal.Quant
-- ==== Proof.RunEarly.lean ====
module

public import proofs.«01_k».proof.Proof.Quant
public import proofs.«01_k».proof.Proof.Offsets
public import Idealize.ShloMosaic.Lib.Pipeline.Frame
public import Idealize.ShloMosaic.Lib.Tactic

/-! # What a step before step 15 writes

The step reads a block of `x` and writes the codes of the block, to its output and to the columns of
the block in the scratch kept for the multiplication, and the scales of the block, to its columns of
the scale row and of the scratch's. -/

@[expose] public section

set_option maxRecDepth 16384

noncomputable section

namespace Cert.KernelIdeal.Run

open Cert.KernelIdeal Cert.KernelIdeal.Gen Cert.KernelIdeal.Quant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- A step before step 15: the codes and the scales of the block of `x`, each written twice. -/
theorem early_values (c : Dev nD) (i : grid0.Coords) (h1 : k0_cond1 i = 1#1) (h2 : ¬ k0_cond2 i = 1#1) (h3 : ¬ k0_cond3 i = 1#1)
    (arg1 : Memref sig .tc .vmem S3072x256 .bf16) (harg1 : arg1.IsWhole) (arg2 : Memref sig .tc .vmem S3072x256 .bf16) (harg2 : arg2.IsWhole) (arg3 : Memref sig .tc .vmem S256x3840 .f32) (harg3 : arg3.IsWhole) (arg4 : Memref sig .tc .vmem S256x3840 .f32) (harg4 : arg4.IsWhole) (arg5 : Memref sig .tc .vmem S3072x256 .fp8e4m3) (harg5 : arg5.IsWhole) (arg6 : Memref sig .tc .vmem S1x3840 .f32) (harg6 : arg6.IsWhole) (arg7 : Memref sig .tc .vmem S3072x256 .fp8e5m2) (harg7 : arg7.IsWhole) (arg8 : Memref sig .tc .vmem S1x5632 .f32) (harg8 : arg8.IsWhole)
    (X1 : S3072x256.Idx → Elt F .bf16) (d6 : S1x3840.Idx → Elt F .f32) (e0 : S3072x3840.Idx → Elt F .fp8e4m3) (e2 : S1x3840.Idx → Elt F .f32) (K : PUnit → sProp 𝕄) :
    iprop(owns (c : Thread nD τ) arg1 fullShare X1 ∗ (∃ d, owns (c : Thread nD τ) arg5 fullShare d) ∗ owns (c : Thread nD τ) arg6 fullShare d6 ∗ owns (c : Thread nD τ) (Memref.whole cc0_scratch0) fullShare e0 ∗ owns (c : Thread nD τ) (Memref.whole cc0_scratch2) fullShare e2
        ∗ (iprop(owns (c : Thread nD τ) arg1 fullShare X1 ∗ owns (c : Thread nD τ) arg5 fullShare (blockX X1 (invX X1)) ∗ owns (c : Thread nD τ) arg6 fullShare (patchCols (256 * (i 0).val) d6 (scaleX X1)) ∗ owns (c : Thread nD τ) (Memref.whole cc0_scratch0) fullShare (patchCols (256 * (i 0).val) e0 (blockX X1 (invX X1))) ∗ owns (c : Thread nD τ) (Memref.whole cc0_scratch2) fullShare (patchCols (256 * (i 0).val) e2 (scaleX X1))) -∗ K ⟨⟩))
      ⊢ wp frame (wpE (defs₀ (F := F)) Variants.none c none) Set.univ
          (cc0_fp8_wgrad i arg1 harg1 arg2 harg2 arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold owns
  iintro ⟨⟨%f1, %hf1, H1⟩, ⟨%d5, %f5, -, H5⟩, ⟨%f6, %hf6, H6⟩, ⟨%g0, %hg0, S0⟩, ⟨%g2, %hg2, S2⟩, Hk⟩
  subst hf1; subst hf6; subst hg0; subst hg2
  sl_exec
  sl_step
  have codes : ∀ f, arg5.view.read (Elt F) (arg5.view.writes (Elt F) f (early_values.sl.H5_24 c arg1 f1))
      = blockX (arg1.view.read (Elt F) f1) (early_values.sl.r_23 c arg1 f1) := by
    refine fun f => funext fun y => View.read_writes_apply_of_pieces arg5.view f (blockX (arg1.view.read (Elt F) f1) (early_values.sl.r_23 c arg1 f1)) _ ?_ y
      (View.cover_of_tiled (early_values.sl.H5_24 c arg1 f1) S128x256.size (by rfl) y)
    unfold early_values.sl.H5_24
    repeat' refine List.forall_mem_cons.mpr ⟨fun x => Eq.trans (by rfl) (codesX_rows (arg1.view.read (Elt F) f1) (early_values.sl.r_23 c arg1 f1) _ _ x), ?_⟩
    exact fun _ h => absurd h List.not_mem_nil
  rw [show early_values.sl.r_23 c arg1 f1 = invX (arg1.view.read (Elt F) f1) from rfl] at codes
  iapply Hk
  isplitl [H1]
  · iexists _; isplitr; swap; · iexact H1
    ipureintro; rfl
  isplitl [H5]
  · iexists _; isplitr; swap; · iexact H5
    ipureintro; exact codes f5
  isplitl [H6]
  · iexists _; isplitr; swap; · iexact H6
    ipureintro
    exact (read_patchCols _ _ _ (k0_off2_eq i) _ _).trans rfl
  isplitl [S0]
  · iexists _; isplitr; swap; · iexact S0
    ipureintro
    refine (read_patchCols _ _ _ (k0_off1_eq i) _ _).trans ?_
    unfold early_values.sl.r_28 early_values.sl.v1100 k0_pay58
    dsimp only
    rw [shapeCast_self, shapeCast_self]
    exact congrArg _ ((View.readAt_full arg5.view _ _).trans (codes _))
  iexists _; isplitr; swap; · iexact S2
  ipureintro
  refine (read_patchCols _ _ _ (k0_off2_eq i) _ _).trans ?_
  exact congrArg _ (shapeCast_self _ _)

end Cert.KernelIdeal.Run

end
-- ==== Proof.Stores.lean ====
module

public import proofs.«01_k».proof.Proof.Quant

/-! # The stores into the double-buffered scratch

The codes of a block of `dy` are stored transposed into one slot of a scratch array, 256 rows of the
block at a time; the scales of the block are stored into the same slot of another, each copied along
a row of 128 lanes. -/

@[expose] public section

set_option maxRecDepth 16384

noncomputable section

namespace Cert.KernelIdeal.Quant

open Cert.KernelIdeal Cert.KernelIdeal.Gen
open Idealize.ShloMosaic Idealize.ShloMosaic.TcCoe

variable {F : FTy → Type} [FloatOps F]

/-! ## The transposed codes -/

/-- Slot `s` of the scratch with the columns below `m` replaced by the codes `P`, transposed. -/
def fillTo {α : Type} (s m : ℕ) (d : S2x256x3072.Idx → α) (P : S3072x256.Idx → α) : S2x256x3072.Idx → α :=
  fun y => if (y 0).val = s ∧ (y 2).val < m then P (ValueIdx.ix2 (y 2) (y 1)) else d y

/-- Slot `s` of the scratch replaced by the codes `P`, transposed. -/
def slotCodes {α : Type} (s : ℕ) (d : S2x256x3072.Idx → α) (P : S3072x256.Idx → α) : S2x256x3072.Idx → α :=
  fun y => if (y 0).val = s then P (ValueIdx.ix2 (y 2) (y 1)) else d y

theorem fillTo_zero {α : Type} (s : ℕ) (d : S2x256x3072.Idx → α) (P : S3072x256.Idx → α) : fillTo s (256 * 0) d P = d :=
  funext fun y => if_neg fun h => Nat.not_lt_zero _ h.2

theorem fillTo_all {α : Type} (s : ℕ) (d : S2x256x3072.Idx → α) (P : S3072x256.Idx → α) : fillTo s (256 * 12) d P = slotCodes s d P := by
  funext y
  have h2 : (y 2).val < 3072 := (y 2).isLt
  unfold fillTo slotCodes
  by_cases h : (y 0).val = s
  · rw [if_pos h, if_pos ⟨h, by omega⟩]
  · rw [if_neg h, if_neg fun hh => h hh.1]

/-- One store of 256 columns more. -/
theorem fill_step {e : EltTy} {sp : Space} (v : View sig .tc sp S2x256x3072 e) (f : v.ty.Contents (Elt F)) (s n : ℕ) (hn : n < 12)
    (d : S2x256x3072.Idx → Elt F e) (P : S3072x256.Idx → Elt F e) (L : List (View.Piece (Elt F) S2x256x3072 e))
    {off : Fin 3 → ℕ} (hoff : off = ![s, 0, 256 * n]) (inb : ∀ a, off a + S1x256x256.size a ≤ S2x256x3072.size a)
    (p : S1x256x256.Idx → Elt F e)
    (hp : ∀ x : S1x256x256.Idx, p x = P (ValueIdx.ix2 ⟨256 * n + (x 2).val, by have : (x 2).val < 256 := (x 2).isLt; omega⟩ (x 1)))
    (hL : v.read (Elt F) (v.writes (Elt F) f L) = fillTo s (256 * n) d P) :
    v.read (Elt F) (v.writes (Elt F) f ((⟨Rect.unit (s := S2x256x3072) off S1x256x256.size inb, p⟩ : View.Piece (Elt F) S2x256x3072 e) :: L))
      = fillTo s (256 * (n + 1)) d P := by
  funext y
  have h1 : (y 1).val < 256 := (y 1).isLt
  by_cases hc : (y 0).val = s ∧ 256 * n ≤ (y 2).val ∧ (y 2).val < 256 * n + 256
  · rw [View.read_writes_cons_unit_of_mem v f inb p L y (ValueIdx.ix3 (0 : Fin 1) (y 1) (⟨(y 2).val - 256 * n, by omega⟩ : Fin 256)) hoff ?_]
    · rw [hp]
      unfold fillTo
      rw [if_pos ⟨hc.1, by omega⟩]
      refine congrArg P (funext fun a => Fin.ext ?_)
      match a with
      | ⟨0, _⟩ => show 256 * n + ((y 2).val - 256 * n) = (y 2).val; omega
      | ⟨1, _⟩ => rfl
    · intro a
      match a with
      | ⟨0, _⟩ => show (y 0).val = s + 0; omega
      | ⟨1, _⟩ => show (y 1).val = 0 + (y 1).val; omega
      | ⟨2, _⟩ => show (y 2).val = 256 * n + ((y 2).val - 256 * n); omega
  · have hcase : (y 0).val ≠ s ∨ ((y 2).val < 256 * n ∨ 256 * n + 256 ≤ (y 2).val) := by omega
    have hmiss : v.read (Elt F) (v.writes (Elt F) f ((⟨Rect.unit (s := S2x256x3072) off S1x256x256.size inb, p⟩ : View.Piece (Elt F) S2x256x3072 e) :: L)) y
        = v.read (Elt F) (v.writes (Elt F) f L) y := by
      rcases hcase with h | h
      · exact View.read_writes_cons_unit_of_not_mem v f inb p L y hoff 0 (by show (y 0).val < s ∨ s + 1 ≤ (y 0).val; omega)
      · exact View.read_writes_cons_unit_of_not_mem v f inb p L y hoff 2 (by show (y 2).val < 256 * n ∨ 256 * n + 256 ≤ (y 2).val; omega)
    rw [hmiss, hL]
    unfold fillTo
    by_cases h : (y 0).val = s ∧ (y 2).val < 256 * n
    · rw [if_pos h, if_pos ⟨h.1, by omega⟩]
    · rw [if_neg h, if_neg (by omega)]

/-- 256 rows of codes, transposed. -/
def transposedV (v : Vec F S256x256 .fp8e5m2) : Vec F S1x256x256 .fp8e5m2 :=
  shapeCast S1x256x256
    (transpose S256x256 [1, 0] (shapeCast S256x256 v shapeCasts_S256x256_S256x256) transposes_S256x256_p1_0_S256x256)
    shapeCasts_S256x256_S1x256x256

theorem transposedV_apply (v : Vec F S256x256 .fp8e5m2) (x : S1x256x256.Idx) : transposedV v x = v (ValueIdx.ix2 (x 2) (x 1)) := by
  unfold transposedV
  rw [shapeCast_self]
  refine (shapeCast_addUnit_apply ![256, 256] _ _ x).trans (transpose_apply _ _ _ _ _ fun b => ?_)
  match b with
  | ⟨0, _⟩ => rfl
  | ⟨1, _⟩ => rfl

theorem inb256 (n : ℕ) (hn : n < 12) : ∀ a, (![256 * n, 0] : Fin 2 → Nat) a + S256x256.size a ≤ S3072x256.size a :=
  Fin.forall_fin_two.mpr ⟨by show 256 * n + 256 ≤ 3072; omega, Nat.le_refl 256⟩

/-- 256 rows loaded from a block of codes and transposed. -/
theorem transposed_load (P : S3072x256.Idx → Elt F .fp8e5m2) (n : ℕ) (hn : n < 12) (x : S1x256x256.Idx) :
    transposedV (fun z => P ((Rect.unit (s := S3072x256) ![256 * n, 0] S256x256.size (inb256 n hn)).toLoadRect.idx z)) x
      = P (ValueIdx.ix2 ⟨256 * n + (x 2).val, by have : (x 2).val < 256 := (x 2).isLt; omega⟩ (x 1)) := by
  rw [transposedV_apply]
  refine congrArg P (funext fun a => Fin.ext ?_)
  match a with
  | ⟨0, _⟩ => show 256 * n + 1 * (x 2).val = 256 * n + (x 2).val; omega
  | ⟨1, _⟩ => show 0 + 1 * (x 1).val = (x 1).val; omega

/-- The same of a load from the buffer the codes were written to. -/
theorem transposed_codes {sp : Space} [∀ e, Nonempty (Elt F e)] (v : View sig .tc sp S3072x256 .fp8e5m2) (L : List (View.Piece (Elt F) S3072x256 .fp8e5m2))
    (P : S3072x256.Idx → Elt F .fp8e5m2) (hP : ∀ f, v.read (Elt F) (v.writes (Elt F) f L) = P) (n : ℕ) (hn : n < 12) (x : S1x256x256.Idx) :
    transposedV (v.readCov L (Rect.unit (s := S3072x256) ![256 * n, 0] S256x256.size (inb256 n hn)).toLoadRect) x
      = P (ValueIdx.ix2 ⟨256 * n + (x 2).val, by have : (x 2).val < 256 := (x 2).isLt; omega⟩ (x 1)) := by
  have e : v.readCov L (Rect.unit (s := S3072x256) ![256 * n, 0] S256x256.size (inb256 n hn)).toLoadRect
      = fun z => P ((Rect.unit (s := S3072x256) ![256 * n, 0] S256x256.size (inb256 n hn)).toLoadRect.idx z) :=
    funext fun z => congrFun (hP v.junk) _
  exact (congrFun (congrArg transposedV e) x).trans (transposed_load P n hn x)

/-! ## The scales -/

/-- Slot `s` of the scratch replaced by the scales, each along a row. -/
def slotScale {α : Type} (s : ℕ) (d : S2x256x128.Idx → α) (p : S1x256.Idx → α) : S2x256x128.Idx → α :=
  fun y => if (y 0).val = s then p (ValueIdx.ix2 0 (y 1)) else d y

/-- The scales, each copied along a row of 128 lanes. -/
def spreadV (p : FVec F S1x256 .f32) : FVec F S1x256x128 .f32 :=
  shapeCast S1x256x128
    (transpose S256x128 [1, 0] (broadcastTo S128x256 (shapeCast S1x256 p shapeCasts_S1x256_S1x256) broadcasts_S1x256_S128x256)
      transposes_S128x256_p1_0_S256x128)
    shapeCasts_S256x128_S1x256x128

theorem spreadV_apply (p : FVec F S1x256 .f32) (x : S1x256x128.Idx) : spreadV p x = p (ValueIdx.ix2 0 (x 1)) := by
  unfold spreadV
  rw [shapeCast_self]
  refine (shapeCast_addUnit_apply ![256, 128] _ _ x).trans ((transpose_apply _ _ _ _ (ValueIdx.ix2 (x 2) (x 1)) fun b => ?_).trans ?_)
  · match b with
    | ⟨0, _⟩ => rfl
    | ⟨1, _⟩ => rfl
  · exact copied_apply p _

/-- The store of the scales into a slot. -/
theorem read_slotScale {sp : Space} (v : View sig .tc sp S2x256x128 .f32) (f : v.ty.Contents (Elt F)) (s : ℕ)
    {off : Fin 3 → ℕ} (hoff : off = ![s, 0, 0]) (inb : ∀ a, off a + S1x256x128.size a ≤ S2x256x128.size a) (p : FVec F S1x256 .f32) :
    v.read (Elt F) (v.writes (Elt F) f [(⟨Rect.unit (s := S2x256x128) off S1x256x128.size inb, spreadV p⟩ : View.Piece (Elt F) S2x256x128 .f32)])
      = slotScale s (v.read (Elt F) f) p := by
  funext y
  have h1 : (y 1).val < 256 := (y 1).isLt
  by_cases hc : (y 0).val = s
  · rw [View.read_writes_cons_unit_of_mem v f inb (spreadV p) [] y (ValueIdx.ix3 (0 : Fin 1) (y 1) (y 2)) hoff ?_]
    · rw [spreadV_apply]
      unfold slotScale
      rw [if_pos hc]
    · intro a
      match a with
      | ⟨0, _⟩ => show (y 0).val = s + 0; omega
      | ⟨1, _⟩ => show (y 1).val = 0 + (y 1).val; omega
      | ⟨2, _⟩ => show (y 2).val = 0 + (y 2).val; omega
  · rw [View.read_writes_cons_unit_of_not_mem v f inb (spreadV p) [] y hoff 0 (by show (y 0).val < s ∨ s + 1 ≤ (y 0).val; omega)]
    unfold slotScale
    rw [if_neg hc]; rfl

end Cert.KernelIdeal.Quant
-- ==== Proof.RunMid.lean ====
module

public import proofs.«01_k».proof.Proof.Stores
public import proofs.«01_k».proof.Proof.Offsets
public import Idealize.ShloMosaic.Lib.Pipeline.Frame
public import Idealize.ShloMosaic.Lib.Tactic

/-! # What step 15 writes

The step reads the first block of `dy` and writes the codes of the block, to its output and, transposed,
to a slot of the scratch kept for the multiplication, and the scales of the block, to its columns of
the scale row and to the slot's rows. -/

@[expose] public section

set_option maxRecDepth 16384

noncomputable section

namespace Cert.KernelIdeal.Run

open Cert.KernelIdeal Cert.KernelIdeal.Gen Cert.KernelIdeal.Quant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- Step 15: the codes and the scales of the first block of `dy`, kept for the multiplication as well. -/
theorem mid_values (c : Dev nD) (i : grid0.Coords) (h1 : ¬ k0_cond1 i = 1#1) (h2 : k0_cond2 i = 1#1) (h3 : ¬ k0_cond3 i = 1#1)
    (arg1 : Memref sig .tc .vmem S3072x256 .bf16) (harg1 : arg1.IsWhole) (arg2 : Memref sig .tc .vmem S3072x256 .bf16) (harg2 : arg2.IsWhole) (arg3 : Memref sig .tc .vmem S256x3840 .f32) (harg3 : arg3.IsWhole) (arg4 : Memref sig .tc .vmem S256x3840 .f32) (harg4 : arg4.IsWhole) (arg5 : Memref sig .tc .vmem S3072x256 .fp8e4m3) (harg5 : arg5.IsWhole) (arg6 : Memref sig .tc .vmem S1x3840 .f32) (harg6 : arg6.IsWhole) (arg7 : Memref sig .tc .vmem S3072x256 .fp8e5m2) (harg7 : arg7.IsWhole) (arg8 : Memref sig .tc .vmem S1x5632 .f32) (harg8 : arg8.IsWhole)
    (X2 : S3072x256.Idx → Elt F .bf16) (d8 : S1x5632.Idx → Elt F .f32) (e1 : S2x256x3072.Idx → Elt F .fp8e5m2) (e3 : S2x256x128.Idx → Elt F .f32) (K : PUnit → sProp 𝕄) :
    iprop(owns (c : Thread nD τ) arg2 fullShare X2 ∗ (∃ d, owns (c : Thread nD τ) arg7 fullShare d) ∗ owns (c : Thread nD τ) arg8 fullShare d8 ∗ owns (c : Thread nD τ) (Memref.whole cc0_scratch1) fullShare e1 ∗ owns (c : Thread nD τ) (Memref.whole cc0_scratch3) fullShare e3
        ∗ (iprop(owns (c : Thread nD τ) arg2 fullShare X2 ∗ owns (c : Thread nD τ) arg7 fullShare (blockDy X2 (invDy X2)) ∗ owns (c : Thread nD τ) arg8 fullShare (patchCols (rowCol i) d8 (scaleDy X2)) ∗ owns (c : Thread nD τ) (Memref.whole cc0_scratch1) fullShare (slotCodes (slot i) e1 (blockDy X2 (invDy X2))) ∗ owns (c : Thread nD τ) (Memref.whole cc0_scratch3) fullShare (slotScale (slot i) e3 (scaleDy X2))) -∗ K ⟨⟩))
      ⊢ wp frame (wpE (defs₀ (F := F)) Variants.none c none) Set.univ
          (cc0_fp8_wgrad i arg1 harg1 arg2 harg2 arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold owns
  iintro ⟨⟨%f2, %hf2, H2⟩, ⟨%d7, %f7, -, H7⟩, ⟨%f8, %hf8, H8⟩, ⟨%g1, %hg1, S1⟩, ⟨%g3, %hg3, S3⟩, Hk⟩
  subst hf2; subst hf8; subst hg1; subst hg3
  sl_exec
  sl_step
  have codes : ∀ f, arg7.view.read (Elt F) (arg7.view.writes (Elt F) f (mid_values.sl.H7_24 c arg2 f2))
      = blockDy (arg2.view.read (Elt F) f2) (mid_values.sl.r_42 c arg2 f2) := by
    refine fun f => funext fun y => View.read_writes_apply_of_pieces arg7.view f (blockDy (arg2.view.read (Elt F) f2) (mid_values.sl.r_42 c arg2 f2)) _ ?_ y
      (View.cover_of_tiled (mid_values.sl.H7_24 c arg2 f2) S128x256.size (by rfl) y)
    unfold mid_values.sl.H7_24
    repeat' refine List.forall_mem_cons.mpr ⟨fun x => Eq.trans (by rfl) (codesDy_rows (arg2.view.read (Elt F) f2) (mid_values.sl.r_42 c arg2 f2) _ _ x), ?_⟩
    exact fun _ h => absurd h List.not_mem_nil
  rw [show mid_values.sl.r_42 c arg2 f2 = invDy (arg2.view.read (Elt F) f2) from rfl] at codes
  iapply Hk
  isplitl [H2]
  · iexists _; isplitr; swap; · iexact H2
    ipureintro; rfl
  isplitl [H7]
  · iexists _; isplitr; swap; · iexact H7
    ipureintro; exact codes f7
  isplitl [H8]
  · iexists _; isplitr; swap; · iexact H8
    ipureintro
    exact (read_patchCols _ _ _ (ClosedOff.eq (off := k0_off3 i)) _ _).trans rfl
  isplitl [S1]
  · iexists _; isplitr; swap; · iexact S1
    ipureintro
    refine Eq.trans ?_ (fillTo_all (slot i) ((Memref.whole cc0_scratch1).view.read (Elt F) g1) (blockDy (arg2.view.read (Elt F) f2) (invDy (arg2.view.read (Elt F) f2))))
    refine fill_step _ _ _ 11 (by decide) _ _ _ (ClosedOff.eq (off := k0_off16 i)) _ _ (fun x => Eq.trans (by rfl) (transposed_codes arg7.view _ _ codes 11 (by decide) x)) ?_
    refine fill_step _ _ _ 10 (by decide) _ _ _ (ClosedOff.eq (off := k0_off15 i)) _ _ (fun x => Eq.trans (by rfl) (transposed_codes arg7.view _ _ codes 10 (by decide) x)) ?_
    refine fill_step _ _ _ 9 (by decide) _ _ _ (ClosedOff.eq (off := k0_off14 i)) _ _ (fun x => Eq.trans (by rfl) (transposed_codes arg7.view _ _ codes 9 (by decide) x)) ?_
    refine fill_step _ _ _ 8 (by decide) _ _ _ (ClosedOff.eq (off := k0_off13 i)) _ _ (fun x => Eq.trans (by rfl) (transposed_codes arg7.view _ _ codes 8 (by decide) x)) ?_
    refine fill_step _ _ _ 7 (by decide) _ _ _ (ClosedOff.eq (off := k0_off12 i)) _ _ (fun x => Eq.trans (by rfl) (transposed_codes arg7.view _ _ codes 7 (by decide) x)) ?_
    refine fill_step _ _ _ 6 (by decide) _ _ _ (ClosedOff.eq (off := k0_off11 i)) _ _ (fun x => Eq.trans (by rfl) (transposed_codes arg7.view _ _ codes 6 (by decide) x)) ?_
    refine fill_step _ _ _ 5 (by decide) _ _ _ (ClosedOff.eq (off := k0_off10 i)) _ _ (fun x => Eq.trans (by rfl) (transposed_codes arg7.view _ _ codes 5 (by decide) x)) ?_
    refine fill_step _ _ _ 4 (by decide) _ _ _ (ClosedOff.eq (off := k0_off9 i)) _ _ (fun x => Eq.trans (by rfl) (transposed_codes arg7.view _ _ codes 4 (by decide) x)) ?_
    refine fill_step _ _ _ 3 (by decide) _ _ _ (ClosedOff.eq (off := k0_off8 i)) _ _ (fun x => Eq.trans (by rfl) (transposed_codes arg7.view _ _ codes 3 (by decide) x)) ?_
    refine fill_step _ _ _ 2 (by decide) _ _ _ (ClosedOff.eq (off := k0_off7 i)) _ _ (fun x => Eq.trans (by rfl) (transposed_codes arg7.view _ _ codes 2 (by decide) x)) ?_
    refine fill_step _ _ _ 1 (by decide) _ _ _ (ClosedOff.eq (off := k0_off6 i)) _ _ (fun x => Eq.trans (by rfl) (transposed_codes arg7.view _ _ codes 1 (by decide) x)) ?_
    refine fill_step _ _ _ 0 (by decide) _ _ _ (ClosedOff.eq (off := k0_off5 i)) _ _ (fun x => Eq.trans (by rfl) (transposed_codes arg7.view _ _ codes 0 (by decide) x)) ?_
    exact (fillTo_zero _ _ _).symm
  iexists _; isplitr; swap; · iexact S3
  ipureintro
  exact Eq.trans (by rfl) (read_slotScale (Memref.whole cc0_scratch3).view g3 (slot i) (ClosedOff.eq (off := k0_off4 i)) _ (scaleDy (arg2.view.read (Elt F) f2)))

end Cert.KernelIdeal.Run

end
-- ==== Proof.Tile.lean ====
module

public import proofs.«01_k».proof.Proof.Stores
public import Idealize.ShloMosaic.Lib.MatmulPlain
public import Idealize.ShloMosaic.Lib.IdealHost

/-! # One tile of the product

A late step multiplies the transposed codes of a block of `dy` by the codes of `x`, 512 columns at a
time (256 in the last chunk), and from each product writes tiles of 128 columns: the product times
the scales of `dy`, times the scales of `x`, added to the main gradient. Over the reals every entry
of every tile is the same formula. -/

@[expose] public section

set_option maxRecDepth 16384

noncomputable section

namespace Cert.KernelIdeal.Quant

open Cert.KernelIdeal Cert.KernelIdeal.Gen
open Idealize.ShloMosaic Idealize.ShloMosaic.TcCoe
open Idealize.ShloMosaic.ValueIdx (ix1 ix2 ix3)

section
variable {F : FTy → Type} [FloatOps F]

/-- A product of transposed codes and `N` columns of codes. -/
def chunk {N : ℕ} (A : Vec F S1x256x3072 .fp8e5m2) (B : Vec F (⟨2, ![3072, N]⟩ : Shape) .fp8e4m3) : FVec F (⟨2, ![256, N]⟩ : Shape) .f32 :=
  matmul (DotDims.plain 256 3072 N) none (shapeCast S256x3072 A shapeCasts_S1x256x3072_S256x3072) B (constant (⟨2, ![256, N]⟩ : Shape) .f32 0x00000000#32)

/-- A tile made from 128 columns of a product. -/
def tile (P : FVec F S256x128 .f32) (D : Vec F S1x256x128 .f32) (S : Vec F S1x128 .f32) (M : Vec F S256x128 .f32) : FVec F S256x128 .f32 :=
  addf M (mulf (mulf P (shapeCast S256x128 D shapeCasts_S1x256x128_S256x128)) (broadcastTo S256x128 S broadcasts_S1x128_S256x128))

theorem slicesAt {N j : ℕ} (h : j + 128 ≤ N) : (⟨2, ![256, N]⟩ : Shape).Slices ![0, j] S256x128 :=
  ⟨rfl, Fin.forall_fin_two.mpr ⟨Nat.le_refl 256, h⟩⟩

theorem inbChunk {N b : ℕ} (h : b + N ≤ 3840) : ∀ a, (![0, b] : Fin 2 → ℕ) a + (![3072, N] : Fin 2 → ℕ) a ≤ S3072x3840.size a :=
  Fin.forall_fin_two.mpr ⟨Nat.le_refl 3072, h⟩

theorem inbScale {o : ℕ} (h : o + 128 ≤ 3840) : ∀ a, (![0, o] : Fin 2 → ℕ) a + S1x128.size a ≤ S1x3840.size a :=
  Fin.forall_fin_two.mpr ⟨Nat.le_refl 1, h⟩

theorem inbTile {o : ℕ} (h : o + 128 ≤ 3840) : ∀ a, (![0, o] : Fin 2 → ℕ) a + S256x128.size a ≤ S256x3840.size a :=
  Fin.forall_fin_two.mpr ⟨Nat.le_refl 256, h⟩
end

/-- What a late step writes: the block `m` of the main gradient plus the scaled product of slot `s` of the codes of
    `dy` with the codes of `x`. -/
def outBlock (m : S256x3840.Idx → EReal) (e0 : S3072x3840.Idx → EReal) (e1 : S2x256x3072.Idx → EReal) (e2 : S1x3840.Idx → EReal)
    (e3 : S2x256x128.Idx → EReal) (s : Fin 2) : S256x3840.Idx → EReal :=
  fun y => m y + (∑ k : Fin 3072, e1 (ix3 s (y 0) k) * e0 (ix2 k (y 1)))
    * e3 (ix3 s (y 0) (⟨(y 1).val % 128, Nat.mod_lt _ (by decide)⟩ : Fin 128)) * e2 (ix2 (0 : Fin 1) (y 1))

/-- An entry of a product. -/
theorem chunk_apply {N : ℕ} (A : Vec Ideal S1x256x3072 .fp8e5m2) (B : Vec Ideal (⟨2, ![3072, N]⟩ : Shape) .fp8e4m3) (r : Fin 256) (q : Fin N) :
    chunk A B (ix2 r q) = ∑ k : Fin 3072, (A (ix3 (0 : Fin 1) r k) : EReal) * B (ix2 k q) := by
  unfold chunk
  refine (Ideal.matmul_plain_apply none _ _ _ r q).trans ?_
  rw [show (constant (F := Ideal) (⟨2, ![256, N]⟩ : Shape) .f32 0x00000000#32) (ix2 r q) = (0 : EReal) from Ideal.ofBits_zero_f32, zero_add]
  refine Finset.sum_congr rfl fun k _ => ?_
  refine congrArg (fun z : EReal => z * B (ix2 k q)) ?_
  refine (shapeCast_dropUnit_apply ![256, 3072] A _ (ix2 r k)).trans (congrArg A (funext fun a => ?_))
  match a with
  | ⟨0, _⟩ => rfl
  | ⟨1, _⟩ => rfl
  | ⟨2, _⟩ => rfl

/-- An entry of a tile. -/
theorem tile_apply (P : FVec Ideal S256x128 .f32) (D : Vec Ideal S1x256x128 .f32) (S : Vec Ideal S1x128 .f32) (M : Vec Ideal S256x128 .f32) (x : S256x128.Idx) :
    tile P D S M x = (M x : EReal) + (P x : EReal) * D (ix3 (0 : Fin 1) (x 0) (x 1)) * S (ix2 (0 : Fin 1) (x 1)) := by
  have eD : shapeCast S256x128 D shapeCasts_S1x256x128_S256x128 x = D (ix3 (0 : Fin 1) (x 0) (x 1)) := by
    refine (shapeCast_dropUnit_apply ![256, 128] D _ x).trans (congrArg D (funext fun a => ?_))
    match a with
    | ⟨0, _⟩ => rfl
    | ⟨1, _⟩ => rfl
    | ⟨2, _⟩ => rfl
  have eS : broadcastTo S256x128 S broadcasts_S1x128_S256x128 x = S (ix2 (0 : Fin 1) (x 1)) := by
    refine broadcastTo_apply _ _ _ _ fun a => ?_
    match a with
    | ⟨0, _⟩ => rfl
    | ⟨1, _⟩ => rfl
  unfold tile
  show (M x : EReal) + (P x : EReal) * (shapeCast S256x128 D shapeCasts_S1x256x128_S256x128 x) * (broadcastTo S256x128 S broadcasts_S1x128_S256x128 x) = _
  rw [eD, eS]

/-- A tile made of what the step loads is the part of the block it is written to. -/
theorem tile_eq (m : S256x3840.Idx → EReal) (e0 : S3072x3840.Idx → EReal) (e1 : S2x256x3072.Idx → EReal) (e2 : S1x3840.Idx → EReal)
    (e3 : S2x256x128.Idx → EReal) (s : Fin 2) {offA offD : Fin 3 → ℕ} (hA : offA = ![s.val, 0, 0]) (hD : offD = ![s.val, 0, 0])
    (inbA : ∀ a, offA a + S1x256x3072.size a ≤ S2x256x3072.size a) (inbD : ∀ a, offD a + S1x256x128.size a ≤ S2x256x128.size a)
    (N b j o : ℕ) (hj : j + 128 ≤ N) (hb : b + N ≤ 3840) (ho : o = b + j) (hm : o % 128 = 0) (x : S256x128.Idx) :
    tile (F := Ideal) (extractStridedSlice S256x128 ![0, j]
        (chunk (F := Ideal) (N := N) (fun z => e1 ((Rect.unit (s := S2x256x3072) offA S1x256x3072.size inbA).toLoadRect.idx z))
          (fun z => e0 ((Rect.unit (s := S3072x3840) ![0, b] ![3072, N] (inbChunk hb)).toLoadRect.idx z))) (slicesAt hj))
        (fun z => e3 ((Rect.unit (s := S2x256x128) offD S1x256x128.size inbD).toLoadRect.idx z))
        (fun z => e2 ((Rect.unit (s := S1x3840) ![0, o] S1x128.size (inbScale (by omega))).toLoadRect.idx z))
        (fun z => m ((Rect.unit (s := S256x3840) ![0, o] S256x128.size (inbTile (by omega))).toLoadRect.idx z)) x
      = outBlock m e0 e1 e2 e3 s ((Rect.unit (s := S256x3840) ![0, o] S256x128.size (inbTile (by omega))).emb x) := by
  subst hA hD ho
  have h0 : (x 0).val < 256 := (x 0).isLt
  have h1 : (x 1).val < 128 := (x 1).isLt
  refine (tile_apply _ _ _ _ x).trans ?_
  unfold outBlock
  refine congrArg₂ (fun p q : EReal => p + q) rfl (congrArg₂ (fun p q : EReal => p * q) (congrArg₂ (fun p q : EReal => p * q) ?_ ?_) ?_)
  · refine ((extractStridedSlice_apply _ _ _ x (ix2 (x 0) (⟨j + (x 1).val, by omega⟩ : Fin N)) fun a => ?_).trans (chunk_apply _ _ _ _)).trans
      (Finset.sum_congr rfl fun k _ => congrArg₂ (fun p q : EReal => p * q) ?_ ?_)
    · match a with
      | ⟨0, _⟩ => show (x 0).val = 0 + (x 0).val; omega
      | ⟨1, _⟩ => rfl
    · refine congrArg e1 (funext fun a => Fin.ext ?_)
      match a with
      | ⟨0, _⟩ => show s.val + 1 * 0 = s.val; omega
      | ⟨1, _⟩ => rfl
      | ⟨2, _⟩ => show 0 + 1 * k.val = k.val; omega
    · refine congrArg e0 (funext fun a => Fin.ext ?_)
      match a with
      | ⟨0, _⟩ => show 0 + 1 * k.val = k.val; omega
      | ⟨1, _⟩ => show b + 1 * (j + (x 1).val) = b + j + 1 * (x 1).val; omega
  · refine congrArg e3 (funext fun a => Fin.ext ?_)
    match a with
    | ⟨0, _⟩ => show s.val + 1 * 0 = s.val; omega
    | ⟨1, _⟩ => rfl
    | ⟨2, _⟩ => show 0 + 1 * (x 1).val = (b + j + 1 * (x 1).val) % 128; omega
  · refine congrArg e2 (funext fun a => Fin.ext ?_)
    match a with
    | ⟨0, _⟩ => rfl
    | ⟨1, _⟩ => rfl

/-- The tile at column `o` of the chunks of 512 columns. -/
theorem tile_wide (m : S256x3840.Idx → EReal) (e0 : S3072x3840.Idx → EReal) (e1 : S2x256x3072.Idx → EReal) (e2 : S1x3840.Idx → EReal)
    (e3 : S2x256x128.Idx → EReal) (s : Fin 2) {offA offD : Fin 3 → ℕ} (hA : offA = ![s.val, 0, 0]) (hD : offD = ![s.val, 0, 0])
    (inbA : ∀ a, offA a + S1x256x3072.size a ≤ S2x256x3072.size a) (inbD : ∀ a, offD a + S1x256x128.size a ≤ S2x256x128.size a)
    (o : ℕ) (h : o / 512 < 7 ∧ o % 128 = 0) (x : S256x128.Idx) :
    tile (F := Ideal) (extractStridedSlice S256x128 ![0, o % 512]
        (chunk (F := Ideal) (N := 512) (fun z => e1 ((Rect.unit (s := S2x256x3072) offA S1x256x3072.size inbA).toLoadRect.idx z))
          (fun z => e0 ((Rect.unit (s := S3072x3840) ![0, 512 * (o / 512)] ![3072, 512] (inbChunk (by omega))).toLoadRect.idx z))) (slicesAt (by omega)))
        (fun z => e3 ((Rect.unit (s := S2x256x128) offD S1x256x128.size inbD).toLoadRect.idx z))
        (fun z => e2 ((Rect.unit (s := S1x3840) ![0, o] S1x128.size (inbScale (by omega))).toLoadRect.idx z))
        (fun z => m ((Rect.unit (s := S256x3840) ![0, o] S256x128.size (inbTile (by omega))).toLoadRect.idx z)) x
      = outBlock m e0 e1 e2 e3 s ((Rect.unit (s := S256x3840) ![0, o] S256x128.size (inbTile (by omega))).emb x) :=
  tile_eq m e0 e1 e2 e3 s hA hD inbA inbD 512 (512 * (o / 512)) (o % 512) o (by omega) (by omega) (by omega) (by omega) x

/-- The tile at column `o` of the last chunk, of 256 columns. -/
theorem tile_last (m : S256x3840.Idx → EReal) (e0 : S3072x3840.Idx → EReal) (e1 : S2x256x3072.Idx → EReal) (e2 : S1x3840.Idx → EReal)
    (e3 : S2x256x128.Idx → EReal) (s : Fin 2) {offA offD : Fin 3 → ℕ} (hA : offA = ![s.val, 0, 0]) (hD : offD = ![s.val, 0, 0])
    (inbA : ∀ a, offA a + S1x256x3072.size a ≤ S2x256x3072.size a) (inbD : ∀ a, offD a + S1x256x128.size a ≤ S2x256x128.size a)
    (o : ℕ) (h : 3584 ≤ o ∧ o + 128 ≤ 3840 ∧ o % 128 = 0) (x : S256x128.Idx) :
    tile (F := Ideal) (extractStridedSlice S256x128 ![0, o - 3584]
        (chunk (F := Ideal) (N := 256) (fun z => e1 ((Rect.unit (s := S2x256x3072) offA S1x256x3072.size inbA).toLoadRect.idx z))
          (fun z => e0 ((Rect.unit (s := S3072x3840) ![0, 3584] ![3072, 256] (inbChunk (by omega))).toLoadRect.idx z))) (slicesAt (by omega)))
        (fun z => e3 ((Rect.unit (s := S2x256x128) offD S1x256x128.size inbD).toLoadRect.idx z))
        (fun z => e2 ((Rect.unit (s := S1x3840) ![0, o] S1x128.size (inbScale (by omega))).toLoadRect.idx z))
        (fun z => m ((Rect.unit (s := S256x3840) ![0, o] S256x128.size (inbTile (by omega))).toLoadRect.idx z)) x
      = outBlock m e0 e1 e2 e3 s ((Rect.unit (s := S256x3840) ![0, o] S256x128.size (inbTile (by omega))).emb x) :=
  tile_eq m e0 e1 e2 e3 s hA hD inbA inbD 256 (3584) (o - 3584) o (by omega) (by omega) (by omega) (by omega) x

end Cert.KernelIdeal.Quant
-- ==== Proof.RunLate.lean ====
module

public import proofs.«01_k».proof.Proof.Tile
public import proofs.«01_k».proof.Proof.Offsets
public import Idealize.ShloMosaic.Lib.Pipeline.Frame
public import Idealize.ShloMosaic.Lib.Tactic

/-! # What a step after step 15 writes

Over the reals: the step adds to a block of the main gradient the product of the codes kept in the
scratch, scaled, and then quantises the next block of `dy` as step 15 does the first. -/

@[expose] public section

set_option maxRecDepth 16384

noncomputable section

namespace Cert.KernelIdeal.Run

open Cert.KernelIdeal Cert.KernelIdeal.Gen Cert.KernelIdeal.Quant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The slot a late step reads. -/
def slotIn (i : grid0.Coords) : Fin 2 := ⟨slotRead i % 2, Nat.mod_lt _ (by decide)⟩

theorem off17_eq : ∀ i : grid0.Coords, k0_cond3 i = 1#1 → k0_off17 i = ![(slotIn i).val, 0, 0] := by decide +kernel
theorem off18_eq : ∀ i : grid0.Coords, k0_cond3 i = 1#1 → k0_off18 i = ![(slotIn i).val, 0, 0] := by decide +kernel

/-- A step after step 15: the block of the result, and the codes and the scales of the next block of `dy`. -/
theorem late_values (c : Dev nD) (i : grid0.Coords) (h1 : ¬ k0_cond1 i = 1#1) (h2 : ¬ k0_cond2 i = 1#1) (h3 : k0_cond3 i = 1#1)
    (arg1 : Memref sig .tc .vmem S3072x256 .bf16) (harg1 : arg1.IsWhole) (arg2 : Memref sig .tc .vmem S3072x256 .bf16) (harg2 : arg2.IsWhole) (arg3 : Memref sig .tc .vmem S256x3840 .f32) (harg3 : arg3.IsWhole) (arg4 : Memref sig .tc .vmem S256x3840 .f32) (harg4 : arg4.IsWhole) (arg5 : Memref sig .tc .vmem S3072x256 .fp8e4m3) (harg5 : arg5.IsWhole) (arg6 : Memref sig .tc .vmem S1x3840 .f32) (harg6 : arg6.IsWhole) (arg7 : Memref sig .tc .vmem S3072x256 .fp8e5m2) (harg7 : arg7.IsWhole) (arg8 : Memref sig .tc .vmem S1x5632 .f32) (harg8 : arg8.IsWhole)
    (X2 : S3072x256.Idx → Elt Ideal .bf16) (X3 : S256x3840.Idx → Elt Ideal .f32) (d8 : S1x5632.Idx → Elt Ideal .f32) (e0 : S3072x3840.Idx → Elt Ideal .fp8e4m3) (e1 : S2x256x3072.Idx → Elt Ideal .fp8e5m2) (e2 : S1x3840.Idx → Elt Ideal .f32) (e3 : S2x256x128.Idx → Elt Ideal .f32) (K : PUnit → sProp 𝕄) :
    iprop(owns (c : Thread nD τ) arg2 fullShare X2 ∗ owns (c : Thread nD τ) arg3 fullShare X3 ∗ (∃ d, owns (c : Thread nD τ) arg4 fullShare d) ∗ (∃ d, owns (c : Thread nD τ) arg7 fullShare d) ∗ owns (c : Thread nD τ) arg8 fullShare d8 ∗ owns (c : Thread nD τ) (Memref.whole cc0_scratch0) fullShare e0 ∗ owns (c : Thread nD τ) (Memref.whole cc0_scratch1) fullShare e1 ∗ owns (c : Thread nD τ) (Memref.whole cc0_scratch2) fullShare e2 ∗ owns (c : Thread nD τ) (Memref.whole cc0_scratch3) fullShare e3
        ∗ (iprop(owns (c : Thread nD τ) arg2 fullShare X2 ∗ owns (c : Thread nD τ) arg3 fullShare X3 ∗ owns (c : Thread nD τ) arg4 fullShare (outBlock X3 e0 e1 e2 e3 (slotIn i)) ∗ owns (c : Thread nD τ) arg7 fullShare (blockDy (F := Ideal) X2 (invDy (F := Ideal) X2)) ∗ owns (c : Thread nD τ) arg8 fullShare (patchCols (rowCol i) d8 (scaleDy (F := Ideal) X2)) ∗ owns (c : Thread nD τ) (Memref.whole cc0_scratch0) fullShare e0 ∗ owns (c : Thread nD τ) (Memref.whole cc0_scratch1) fullShare (slotCodes (slot i) e1 (blockDy (F := Ideal) X2 (invDy (F := Ideal) X2))) ∗ owns (c : Thread nD τ) (Memref.whole cc0_scratch2) fullShare e2 ∗ owns (c : Thread nD τ) (Memref.whole cc0_scratch3) fullShare (slotScale (slot i) e3 (scaleDy (F := Ideal) X2))) -∗ K ⟨⟩))
      ⊢ wp frame (wpE (defs₀ (F := Ideal)) Variants.none c none) Set.univ
          (cc0_fp8_wgrad i arg1 harg1 arg2 harg2 arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold owns
  iintro ⟨⟨%f2, %hf2, H2⟩, ⟨%f3, %hf3, H3⟩, ⟨%d4, %f4, -, H4⟩, ⟨%d7, %f7, -, H7⟩, ⟨%f8, %hf8, H8⟩, ⟨%g0, %hg0, S0⟩, ⟨%g1, %hg1, S1⟩, ⟨%g2, %hg2, S2⟩, ⟨%g3, %hg3, S3⟩, Hk⟩
  subst hf2; subst hf3; subst hf8; subst hg0; subst hg1; subst hg2; subst hg3
  sl_exec
  sl_step
  have codes : ∀ f, arg7.view.read (Elt Ideal) (arg7.view.writes (Elt Ideal) f (late_values.sl.H7_24 c arg2 f2))
      = blockDy (F := Ideal) (arg2.view.read (Elt Ideal) f2) (late_values.sl.r_66 c arg2 f2) := by
    refine fun f => funext fun y => View.read_writes_apply_of_pieces arg7.view f (blockDy (F := Ideal) (arg2.view.read (Elt Ideal) f2) (late_values.sl.r_66 c arg2 f2)) _ ?_ y
      (View.cover_of_tiled (late_values.sl.H7_24 c arg2 f2) S128x256.size (by rfl) y)
    unfold late_values.sl.H7_24
    repeat' refine List.forall_mem_cons.mpr ⟨fun x => Eq.trans (by rfl) (codesDy_rows (F := Ideal) (arg2.view.read (Elt Ideal) f2) (late_values.sl.r_66 c arg2 f2) _ _ x), ?_⟩
    exact fun _ h => absurd h List.not_mem_nil
  rw [show late_values.sl.r_66 c arg2 f2 = invDy (F := Ideal) (arg2.view.read (Elt Ideal) f2) from rfl] at codes
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine funext fun y => View.read_writes_apply_of_pieces arg4.view f4 (outBlock (arg3.view.read (Elt Ideal) f3) ((Memref.whole cc0_scratch0).view.read (Elt Ideal) g0) ((Memref.whole cc0_scratch1).view.read (Elt Ideal) g1) ((Memref.whole cc0_scratch2).view.read (Elt Ideal) g2) ((Memref.whole cc0_scratch3).view.read (Elt Ideal) g3) (slotIn i)) _ ?_ y
      (View.cover_of_tiled (s := S256x3840) _ S256x128.size (by rfl) y)
    iterate 2 refine List.forall_mem_cons.mpr ⟨fun x => Eq.trans (by rfl) (tile_last _ _ _ _ _ (slotIn i) (off17_eq i h3) (off18_eq i h3) (k0_off17_inb i h3) (k0_off18_inb i h3) _ (by decide) x), ?_⟩
    repeat' refine List.forall_mem_cons.mpr ⟨fun x => Eq.trans (by rfl) (tile_wide _ _ _ _ _ (slotIn i) (off17_eq i h3) (off18_eq i h3) (k0_off17_inb i h3) (k0_off18_inb i h3) _ (by decide) x), ?_⟩
    exact fun _ h => absurd h List.not_mem_nil
  isplitl [H7]
  · iexists _; isplitr; swap; · iexact H7
    ipureintro; exact codes f7
  isplitl [H8]
  · iexists _; isplitr; swap; · iexact H8
    ipureintro
    exact (read_patchCols _ _ _ (ClosedOff.eq (off := k0_off19 i)) _ _).trans rfl
  isplitl [S0]
  · iexists _; isplitr; swap; · iexact S0
    ipureintro; rfl
  isplitl [S1]
  · iexists _; isplitr; swap; · iexact S1
    ipureintro
    refine Eq.trans ?_ (fillTo_all (slot i) ((Memref.whole cc0_scratch1).view.read (Elt Ideal) g1) (blockDy (F := Ideal) (arg2.view.read (Elt Ideal) f2) (invDy (F := Ideal) (arg2.view.read (Elt Ideal) f2))))
    refine fill_step (F := Ideal) _ _ _ 11 (by decide) _ _ _ (ClosedOff.eq (off := k0_off32 i)) _ _ (fun x => Eq.trans (by rfl) (transposed_codes (F := Ideal) arg7.view _ _ codes 11 (by decide) x)) ?_
    refine fill_step (F := Ideal) _ _ _ 10 (by decide) _ _ _ (ClosedOff.eq (off := k0_off31 i)) _ _ (fun x => Eq.trans (by rfl) (transposed_codes (F := Ideal) arg7.view _ _ codes 10 (by decide) x)) ?_
    refine fill_step (F := Ideal) _ _ _ 9 (by decide) _ _ _ (ClosedOff.eq (off := k0_off30 i)) _ _ (fun x => Eq.trans (by rfl) (transposed_codes (F := Ideal) arg7.view _ _ codes 9 (by decide) x)) ?_
    refine fill_step (F := Ideal) _ _ _ 8 (by decide) _ _ _ (ClosedOff.eq (off := k0_off29 i)) _ _ (fun x => Eq.trans (by rfl) (transposed_codes (F := Ideal) arg7.view _ _ codes 8 (by decide) x)) ?_
    refine fill_step (F := Ideal) _ _ _ 7 (by decide) _ _ _ (ClosedOff.eq (off := k0_off28 i)) _ _ (fun x => Eq.trans (by rfl) (transposed_codes (F := Ideal) arg7.view _ _ codes 7 (by decide) x)) ?_
    refine fill_step (F := Ideal) _ _ _ 6 (by decide) _ _ _ (ClosedOff.eq (off := k0_off27 i)) _ _ (fun x => Eq.trans (by rfl) (transposed_codes (F := Ideal) arg7.view _ _ codes 6 (by decide) x)) ?_
    refine fill_step (F := Ideal) _ _ _ 5 (by decide) _ _ _ (ClosedOff.eq (off := k0_off26 i)) _ _ (fun x => Eq.trans (by rfl) (transposed_codes (F := Ideal) arg7.view _ _ codes 5 (by decide) x)) ?_
    refine fill_step (F := Ideal) _ _ _ 4 (by decide) _ _ _ (ClosedOff.eq (off := k0_off25 i)) _ _ (fun x => Eq.trans (by rfl) (transposed_codes (F := Ideal) arg7.view _ _ codes 4 (by decide) x)) ?_
    refine fill_step (F := Ideal) _ _ _ 3 (by decide) _ _ _ (ClosedOff.eq (off := k0_off24 i)) _ _ (fun x => Eq.trans (by rfl) (transposed_codes (F := Ideal) arg7.view _ _ codes 3 (by decide) x)) ?_
    refine fill_step (F := Ideal) _ _ _ 2 (by decide) _ _ _ (ClosedOff.eq (off := k0_off23 i)) _ _ (fun x => Eq.trans (by rfl) (transposed_codes (F := Ideal) arg7.view _ _ codes 2 (by decide) x)) ?_
    refine fill_step (F := Ideal) _ _ _ 1 (by decide) _ _ _ (ClosedOff.eq (off := k0_off22 i)) _ _ (fun x => Eq.trans (by rfl) (transposed_codes (F := Ideal) arg7.view _ _ codes 1 (by decide) x)) ?_
    refine fill_step (F := Ideal) _ _ _ 0 (by decide) _ _ _ (ClosedOff.eq (off := k0_off21 i)) _ _ (fun x => Eq.trans (by rfl) (transposed_codes (F := Ideal) arg7.view _ _ codes 0 (by decide) x)) ?_
    exact (fillTo_zero _ _ _).symm
  isplitl [S2]
  · iexists _; isplitr; swap; · iexact S2
    ipureintro; rfl
  iexists _; isplitr; swap; · iexact S3
  ipureintro
  exact Eq.trans (by rfl) (read_slotScale (F := Ideal) (Memref.whole cc0_scratch3).view g3 (slot i) (ClosedOff.eq (off := k0_off20 i)) _ (scaleDy (F := Ideal) (arg2.view.read (Elt Ideal) f2)))

end Cert.KernelIdeal.Run

end
-- ==== Proof.Scale.lean ====
module

public import Idealize.ShloMosaic.PureOps.Ideal
public import Idealize.ShloMosaic.PureOps.Ideal.Laws
public import Idealize.ShloMosaic.Lib.IdealHost

/-! # The power-of-two scale of a ratio, computed two ways

The kernel finds the exponent field of a ratio by comparing the ratio with the powers of two that the
integers below 256 spell as exponent fields, and builds the scale and its inverse from such a field.
The reference takes the floor of the ratio's base-two logarithm. On the extended reals the two give
the same scale and the same inverse for a ratio that is below `2 ^ 126` or infinite. -/

@[expose] public section

set_option maxRecDepth 16384

noncomputable section

namespace Cert.Scale

open Idealize.ShloMosaic

/-! ## The kernel's search -/

/-- The float whose exponent field is `w` and whose other bits are zero. -/
def power (w : BitVec 32) : EReal := Ideal.ofBits .f32 (IntOp.shli .vector w 23#32)

/-- One step of the search, with the comparison against the ratio as a predicate on fields: raise the field by `bit`
    if the ratio is not below the raised field's power. -/
def step (p : BitVec 32 → BitVec 1) (w bit : BitVec 32) : BitVec 32 :=
  Scalar.select (p (IntOp.ori w bit)) (IntOp.ori w bit) w

/-- The search, from the highest bit of the field to the lowest. -/
def search (p : BitVec 32 → BitVec 1) : BitVec 32 :=
  step p (step p (step p (step p (step p (step p (step p (step p 0#32 128#32) 64#32) 32#32) 16#32) 8#32) 4#32) 2#32) 1#32

/-- The exponent the kernel takes from a field: 0 for a field of all zeros or all ones. -/
def expOf (w : BitVec 32) : BitVec 32 :=
  Scalar.select (IntOp.ori (IntOp.cmpi .eq w 0#32) (IntOp.cmpi .eq w 255#32)) 0#32 (IntOp.subi w 126#32)

/-- The kernel's comparison of the ratio with a field's power. -/
def atLeast (ρ : EReal) (w : BitVec 32) : BitVec 1 := Ideal.cmp .oge ρ (power w)

/-- The kernel's scale of a ratio. -/
def kScale (ρ : EReal) : EReal := power (IntOp.addi (expOf (search (atLeast ρ))) 127#32)

/-- The inverse of the kernel's scale. -/
def kInv (ρ : EReal) : EReal := power (IntOp.subi 127#32 (expOf (search (atLeast ρ))))

/-! ## The reference's logarithm -/

/-- The reference's exponent of a ratio. -/
def rExp (ρ : EReal) : EReal :=
  Scalar.select
    (IntOp.andi (Ideal.cmp .oge ρ (Ideal.ofBits .f32 0x00800000#32)) (Ideal.cmp .olt ρ (Ideal.ofBits .f32 0x7F800000#32)))
    (Ideal.liftRound Int.floor (Ideal.div (Ideal.log ρ) (Ideal.log (Ideal.ofBits .f32 0x40000000#32)))
      + Ideal.ofBits .f32 0x3F800000#32)
    (Ideal.ofBits .f32 0x00000000#32)

/-- The reference's scale of a ratio. -/
def rScale (ρ : EReal) : EReal := Ideal.exp2 (rExp ρ)

/-- The inverse of the reference's scale. -/
def rInv (ρ : EReal) : EReal := Ideal.exp2 (Ideal.ofBits .f32 0x00000000#32 - rExp ρ)

/-! ## What the bit patterns denote -/

/-- The three fields of the pattern of a power, for each of the 256 exponent fields. -/
theorem power_fields : ∀ n : Fin 256,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by
  decide +kernel

/-- A field that is neither all zeros nor all ones denotes its power of two. -/
theorem power_normal (n : ℕ) (h0 : 0 < n) (h1 : n < 255) : power (BitVec.ofNat 32 n) = (((2 : ℝ) ^ ((n : ℤ) - 127) : ℝ) : EReal) := by
  obtain ⟨hs, he, hf⟩ := power_fields ⟨n, by omega⟩
  simp only at hs he hf
  rw [power, show ∀ b, Ideal.ofBits .f32 b = Ideal.ieee 8 23 b from fun _ => rfl]
  unfold Ideal.ieee
  simp only [Nat.reduceAdd]
  rw [hs, he, hf, if_neg (by omega), if_neg (by omega)]
  refine congrArg (fun x : ℝ => (x : EReal)) ?_
  rw [show ((n : ℤ) - (2 ^ (8 - 1) - 1) - (23 : ℕ)) = ((n : ℤ) - 127) + (-23) by norm_num; ring, zpow_add₀ (by norm_num)]
  simp
  norm_num
  ring

/-- The field of all zeros denotes zero. -/
theorem power_zero : power 0#32 = 0 := by
  obtain ⟨hs, he, hf⟩ := power_fields ⟨0, by omega⟩
  simp only at hs he hf
  rw [power, show ∀ b, Ideal.ofBits .f32 b = Ideal.ieee 8 23 b from fun _ => rfl]
  unfold Ideal.ieee
  simp only [Nat.reduceAdd]
  rw [hs, he, hf]
  simp

/-- The field of all ones denotes infinity. -/
theorem power_top : power 255#32 = ⊤ := by
  obtain ⟨hs, he, hf⟩ := power_fields ⟨255, by omega⟩
  simp only at hs he hf
  rw [power, show ∀ b, Ideal.ofBits .f32 b = Ideal.ieee 8 23 b from fun _ => rfl]
  unfold Ideal.ieee
  simp only [Nat.reduceAdd]
  rw [hs, he, hf]
  simp

theorem ofBits_tiny : Ideal.ofBits .f32 0x00800000#32 = (((2 : ℝ) ^ (-126 : ℤ) : ℝ) : EReal) := power_normal 1 (by omega) (by omega)
theorem ofBits_inf : Ideal.ofBits .f32 0x7F800000#32 = ⊤ := power_top
theorem ofBits_two : Ideal.ofBits .f32 0x40000000#32 = ((2 : ℝ) : EReal) := by
  have := power_normal 128 (by omega) (by omega)
  norm_num at this
  exact this

/-! ## The search finds the greatest field whose power does not exceed the ratio -/

/-- On a comparison that holds of exactly the fields up to `n`, the search gives `n`. -/
theorem search_le : ∀ n : Fin 256, search (fun w => BitVec.ofBool (decide (w.toNat ≤ n.val))) = BitVec.ofNat 32 n.val := by
  decide +kernel

/-- A step looks at fields below 256 only, and gives one. -/
theorem step_congr {p q : BitVec 32 → BitVec 1} (h : ∀ w : BitVec 32, w.toNat < 256 → p w = q w) {w w' bit : BitVec 32}
    (hw : w = w' ∧ w.toNat < 256) (hb : bit.toNat < 256) : step p w bit = step q w' bit ∧ (step p w bit).toNat < 256 := by
  obtain ⟨rfl, hw⟩ := hw
  have ho : (IntOp.ori w bit).toNat < 256 := by
    show (w ||| bit).toNat < 256
    rw [BitVec.toNat_or]; exact Nat.or_lt_two_pow (n := 8) hw hb
  refine ⟨by unfold step; rw [h _ ho], ?_⟩
  unfold step Scalar.select
  split <;> assumption

/-- The search looks at fields below 256 only. -/
theorem search_congr {p q : BitVec 32 → BitVec 1} (h : ∀ w : BitVec 32, w.toNat < 256 → p w = q w) : search p = search q := by
  unfold search
  refine (step_congr h ?_ (by decide)).1
  refine step_congr h ?_ (by decide)
  refine step_congr h ?_ (by decide)
  refine step_congr h ?_ (by decide)
  refine step_congr h ?_ (by decide)
  refine step_congr h ?_ (by decide)
  refine step_congr h ?_ (by decide)
  refine step_congr h ⟨rfl, by decide⟩ (by decide)

/-- The search against a ratio gives `n` when the fields whose powers do not exceed the ratio are those up to `n`. -/
theorem search_atLeast (ρ : EReal) (n : ℕ) (hn : n < 256) (h : ∀ k : ℕ, k < 256 → (power (BitVec.ofNat 32 k) ≤ ρ ↔ k ≤ n)) :
    search (atLeast ρ) = BitVec.ofNat 32 n := by
  rw [← search_le ⟨n, hn⟩]
  refine search_congr fun w hw => ?_
  unfold atLeast Ideal.cmp
  have := h w.toNat hw
  rw [BitVec.ofNat_toNat, BitVec.setWidth_eq] at this
  simp only [this]

/-! ## The two agree -/

/-- The exponent word the kernel adds and subtracts, for each field. -/
theorem exp_words : ∀ n : Fin 256,
    (n.val = 0 ∨ n.val = 255 → IntOp.addi (expOf (BitVec.ofNat 32 n.val)) 127#32 = BitVec.ofNat 32 127 ∧ IntOp.subi 127#32 (expOf (BitVec.ofNat 32 n.val)) = BitVec.ofNat 32 127)
      ∧ (0 < n.val → n.val < 253 → IntOp.addi (expOf (BitVec.ofNat 32 n.val)) 127#32 = BitVec.ofNat 32 (n.val + 1) ∧ IntOp.subi 127#32 (expOf (BitVec.ofNat 32 n.val)) = BitVec.ofNat 32 (253 - n.val)) := by
  decide +kernel

theorem power_one : power (BitVec.ofNat 32 127) = 1 := by
  rw [power_normal 127 (by omega) (by omega)]; norm_num

/-- A field of zeros or of ones gives the scale 1. -/
theorem k_of_edge (ρ : EReal) (n : ℕ) (hn : n = 0 ∨ n = 255) (h : search (atLeast ρ) = BitVec.ofNat 32 n) : kScale ρ = 1 ∧ kInv ρ = 1 := by
  have := (exp_words ⟨n, by omega⟩).1 hn
  unfold kScale kInv
  rw [h, this.1, this.2, power_one]
  exact ⟨rfl, rfl⟩

/-- A ratio outside the normal range has the reference's scale 1. -/
theorem r_of_edge (ρ : EReal) (h : ρ < (((2 : ℝ) ^ (-126 : ℤ) : ℝ) : EReal) ∨ ρ = ⊤) : rScale ρ = 1 ∧ rInv ρ = 1 := by
  have he : rExp ρ = 0 := by
    unfold rExp
    rw [ofBits_tiny, ofBits_inf]
    have hz : IntOp.andi (Ideal.cmp .oge ρ (((2 : ℝ) ^ (-126 : ℤ) : ℝ) : EReal)) (Ideal.cmp .olt ρ ⊤) = 0#1 := by
      unfold Ideal.cmp IntOp.andi
      rcases h with h | h
      · rw [decide_eq_false (not_le.mpr h)]; exact BitVec.zero_and
      · simp only [h, lt_irrefl]
        rw [decide_eq_true (le_top : (((2 : ℝ) ^ (-126 : ℤ) : ℝ) : EReal) ≤ ⊤)]; rfl
    rw [hz, Ideal.ofBits_zero_f32]
    rfl
  unfold rScale rInv
  rw [he, Ideal.ofBits_zero_f32, show (0 : EReal) - 0 = ((0 : ℝ) : EReal) by simp, show (0 : EReal) = ((0 : ℝ) : EReal) by simp]
  rw [Ideal.exp2_coe]
  simp

/-- The floor of the base-two logarithm. -/
def floorLog (r : ℝ) : ℤ := Int.floor (Real.log r * (Real.log 2)⁻¹)

/-- It is the greatest exponent whose power of two does not exceed the number. -/
theorem le_floorLog (r : ℝ) (hr : 0 < r) (z : ℤ) : (2 : ℝ) ^ z ≤ r ↔ z ≤ floorLog r := by
  have hl2 : 0 < Real.log 2 := Real.log_pos (by norm_num)
  unfold floorLog
  rw [Int.le_floor, ← div_eq_mul_inv, le_div_iff₀ hl2, ← Real.log_zpow, Real.log_le_log_iff (by positivity) hr]

/-- The reference's exponent of a real ratio in the normal range. -/
theorem rExp_normal (r : ℝ) (h : (2 : ℝ) ^ (-126 : ℤ) ≤ r) : rExp (r : EReal) = (((floorLog r + 1 : ℤ) : ℝ) : EReal) := by
  have hr : 0 < r := lt_of_lt_of_le (by positivity) h
  unfold rExp
  rw [ofBits_tiny, ofBits_inf, ofBits_two, Ideal.ofBits_one_f32]
  have hz : IntOp.andi (Ideal.cmp .oge (r : EReal) (((2 : ℝ) ^ (-126 : ℤ) : ℝ) : EReal)) (Ideal.cmp .olt (r : EReal) ⊤) = 1#1 := by
    unfold Ideal.cmp IntOp.andi
    have : ((((2 : ℝ) ^ (-126 : ℤ) : ℝ) : EReal)) ≤ (r : EReal) := by exact_mod_cast h
    simp only [this, EReal.coe_lt_top]
    rfl
  rw [hz]
  have hl2 : Real.log 2 ≠ 0 := (Real.log_pos (by norm_num)).ne'
  show Ideal.liftRound Int.floor (Ideal.div (Ideal.log (r : EReal)) (Ideal.log ((2 : ℝ) : EReal))) + 1 = _
  have e1 : Ideal.log (r : EReal) = (Real.log r : EReal) := by rw [Ideal.log_coe, if_neg (not_le.mpr hr)]
  have e2 : Ideal.log ((2 : ℝ) : EReal) = (Real.log 2 : EReal) := by rw [Ideal.log_coe, if_neg (by norm_num)]
  rw [e1, e2, Ideal.div, if_neg (by exact_mod_cast hl2), ← EReal.coe_inv, ← EReal.coe_mul]
  show ((Int.floor (Real.log r * (Real.log 2)⁻¹) : ℝ) : EReal) + 1 = _
  unfold floorLog
  push_cast
  rfl

/-- The exponential of an integer is the integer power of two. -/
theorem exp2_int (z : ℤ) : Ideal.exp2 (((z : ℝ)) : EReal) = (((2 : ℝ) ^ z : ℝ) : EReal) := by
  show ((Real.rpow 2 (z : ℝ) : ℝ) : EReal) = _
  congr 1
  exact Real.rpow_intCast 2 z

/-- The kernel's and the reference's scale of a ratio agree, and so do the inverses. -/
theorem scale_eq (ρ : EReal) (h0 : 0 ≤ ρ) (h1 : ρ < (((2 : ℝ) ^ (126 : ℤ) : ℝ) : EReal) ∨ ρ = ⊤) :
    kScale ρ = rScale ρ ∧ kInv ρ = rInv ρ := by
  have hmono : ∀ a b : ℤ, a ≤ b → (((2 : ℝ) ^ a : ℝ) : EReal) ≤ (((2 : ℝ) ^ b : ℝ) : EReal) := fun a b hab => by
    exact_mod_cast zpow_le_zpow_right₀ (by norm_num : (1 : ℝ) ≤ 2) hab
  rcases h1 with h1 | rfl
  swap
  · have hk := k_of_edge ⊤ 255 (.inr rfl) (search_atLeast ⊤ 255 (by omega) fun k hk => ⟨fun _ => by omega, fun _ => le_top⟩)
    have hr := r_of_edge ⊤ (.inr rfl)
    exact ⟨hk.1.trans hr.1.symm, hk.2.trans hr.2.symm⟩
  by_cases hlow : ρ < (((2 : ℝ) ^ (-126 : ℤ) : ℝ) : EReal)
  · have hk := k_of_edge ρ 0 (.inl rfl) (search_atLeast ρ 0 (by omega) fun k hk => ⟨fun hle => ?_, fun hle => ?_⟩)
    · have hr := r_of_edge ρ (.inl hlow)
      exact ⟨hk.1.trans hr.1.symm, hk.2.trans hr.2.symm⟩
    · by_contra hpos
      rcases Nat.lt_or_ge k 255 with hlt | hge
      · rw [power_normal k (by omega) hlt] at hle
        exact absurd (lt_of_le_of_lt ((hmono (-126) (k - 127) (by omega)).trans hle) hlow) (lt_irrefl _)
      · have : k = 255 := by omega
        subst this
        rw [power_top] at hle
        exact absurd (lt_of_le_of_lt hle h1) not_top_lt
    · have : k = 0 := by omega
      subst this
      rw [power_zero]; exact h0
  · have hlow := not_lt.mp hlow
    induction ρ with
    | bot => exact absurd h0 (by simp)
    | top => exact absurd h1 not_top_lt
    | coe r =>
      have hr : (2 : ℝ) ^ (-126 : ℤ) ≤ r := by exact_mod_cast hlow
      have hr' : r < (2 : ℝ) ^ (126 : ℤ) := by exact_mod_cast h1
      have hpos : 0 < r := lt_of_lt_of_le (by positivity) hr
      have hz : ∀ z : ℤ, (2 : ℝ) ^ z ≤ r ↔ z ≤ floorLog r := le_floorLog r hpos
      have hl : -126 ≤ floorLog r := (hz _).mp hr
      have hu : floorLog r < 126 := by
        by_contra hc
        exact absurd hr' (not_lt.mpr ((hz 126).mpr (not_lt.mp hc)))
      obtain ⟨n, hn⟩ : ∃ n : ℕ, (n : ℤ) = floorLog r + 127 := ⟨(floorLog r + 127).toNat, by omega⟩
      have hs := search_atLeast (r : EReal) n (by omega) fun k hk => by
        rcases Nat.eq_zero_or_pos k with rfl | hk0
        · rw [show BitVec.ofNat 32 0 = 0#32 from rfl, power_zero]; exact ⟨fun _ => by omega, fun _ => h0⟩
        rcases Nat.lt_or_ge k 255 with hlt | hge
        · rw [power_normal k hk0 hlt, EReal.coe_le_coe_iff, hz]; omega
        · have : k = 255 := by omega
          subst this
          rw [power_top]
          exact ⟨fun hle => absurd (lt_of_le_of_lt hle h1) not_top_lt, fun hle => by omega⟩
      have hw := (exp_words ⟨n, by omega⟩).2 (by show 0 < n; omega) (by show n < 253; omega)
      unfold kScale kInv rScale rInv
      rw [hs, hw.1, hw.2, rExp_normal r hr, exp2_int, Ideal.ofBits_zero_f32, ← EReal.coe_zero, ← EReal.coe_sub,
        power_normal _ (by show 0 < n + 1; omega) (by show n + 1 < 255; omega),
        power_normal _ (by show 0 < 253 - n; omega) (by show 253 - n < 255; omega),
        show (0 - ((floorLog r + 1 : ℤ) : ℝ)) = ((-(floorLog r + 1) : ℤ) : ℝ) by push_cast; ring, exp2_int]
      constructor
      · rw [show ((n + 1 : ℕ) : ℤ) - 127 = floorLog r + 1 by push_cast; omega]
      · rw [show ((253 - n : ℕ) : ℤ) - 127 = -(floorLog r + 1) by omega]

end Cert.Scale
-- ==== Proof.Channels.lean ====
module

public import proofs.«01_k».proof.Proof.Tile
public import proofs.«01_k».proof.Proof.Scale

/-! # The quantiser of a channel, over the reals

Over the reals the kernel's quantiser of a block depends, in each channel, on the greatest magnitude
of the channel alone: the maximum taken group by group and then across the sixteen rows of a group is
the greatest magnitude of all the rows. So a block's codes and scales are the columns of one function
of the whole array. -/

@[expose] public section

set_option maxRecDepth 16384

noncomputable section

namespace Cert.KernelIdeal.Quant

open Cert.KernelIdeal Cert.KernelIdeal.Gen Cert.Scale
open Idealize.ShloMosaic Idealize.ShloMosaic.TcCoe
open Idealize.ShloMosaic.ValueIdx (ix1 ix2 ix3)

/-- The greatest magnitude of column `c`. -/
def colMax {R C : ℕ} (X : (⟨2, ![R, C]⟩ : Shape).Idx → EReal) (c : Fin C) : EReal :=
  ⨆ r : Fin R, max (X (ix2 r c)) (-(X (ix2 r c)))

theorem ofBits_bot : Ideal.ofBits .f32 0xFF800000#32 = ⊥ := by
  rw [show ∀ b, Ideal.ofBits .f32 b = Ideal.ieee 8 23 b from fun _ => rfl]
  unfold Ideal.ieee
  simp

/-- A maximum over the rows of an array. -/
theorem reduced_eq {R C : ℕ} (src : FVec Ideal (⟨2, ![R, C]⟩ : Shape) .f32) (h : (⟨2, ![R, C]⟩ : Shape).Reduces [0] (⟨1, ![C]⟩ : Shape))
    (hφ : FKind.Formats .f32) (hacc : (0xFF800000#32 : BitVec 32) = FKind.maximumf.neutral .f32 hφ) (j : (⟨1, ![C]⟩ : Shape).Idx) :
    (multiReduction .maximumf [0] (⟨1, ![C]⟩ : Shape) src 0xFF800000#32 h hφ hacc j : EReal) = ⨆ r : Fin R, (src (ix2 r (j 0)) : EReal) := by
  have e : ∀ k : Fin R, h.lift j k = ix2 k (j 0) := fun k => funext fun a => by
    match a with
    | ⟨0, _⟩ => rfl
    | ⟨1, _⟩ => rfl
  refine (Ideal.multiReduction_maximumf_single src _ h hφ hacc j).trans (eq_of_forall_ge_iff fun z => ?_)
  refine (Finset.fold_max_le (s := (Finset.univ : Finset (Fin R))) (f := fun k => (src (h.lift j k) : EReal)) z).trans ?_
  rw [iSup_le_iff]
  refine ⟨fun hh r => (congrArg src (e r)).symm.le.trans (hh.2 r (Finset.mem_univ r)), fun hh => ⟨?_, fun r _ => (congrArg src (e r)).le.trans (hh r)⟩⟩
  rw [show FloatOps.ofBits (F := Ideal) .f32 0xFF800000#32 = (⊥ : EReal) from ofBits_bot]
  exact bot_le

/-- The running maximum of the groups is below `z` where every group read so far is. -/
theorem runMax_le (b : ℕ → Vec Ideal S16x256 .bf16) (x : S16x256.Idx) (z : EReal) : ∀ n : ℕ,
    ((runMax b n x : EReal) ≤ z ↔ ∀ k ≤ n, max (b k x : EReal) (-(b k x : EReal)) ≤ z)
  | 0 => by
    unfold runMax
    rw [shapeCast_self]
    show max (b 0 x : EReal) (-(b 0 x : EReal)) ≤ z ↔ _
    exact ⟨fun h k hk => by rw [Nat.le_zero.mp hk]; exact h, fun h => h 0 (Nat.le_refl 0)⟩
  | n + 1 => by
    unfold runMax
    rw [shapeCast_self]
    show max (runMax b n x : EReal) (max (b (n + 1) x : EReal) (-(b (n + 1) x : EReal))) ≤ z ↔ _
    rw [max_le_iff, runMax_le b x z n]
    refine ⟨fun h k hk => ?_, fun h => ⟨fun k hk => h k (by omega), h (n + 1) (Nat.le_refl _)⟩⟩
    rcases Nat.lt_or_ge k (n + 1) with hk' | hk'
    · exact h.1 k (by omega)
    · rw [show k = n + 1 by omega]; exact h.2

theorem grp_apply (X : S3072x256.Idx → EReal) (k : ℕ) (x : S16x256.Idx) :
    grp (F := Ideal) X k x = X (ix2 ⟨16 * (k % 192) + (x 0).val, by have : (x 0).val < 16 := (x 0).isLt; omega⟩ (x 1)) := by
  refine congrArg X (funext fun a => Fin.ext ?_)
  match a with
  | ⟨0, _⟩ => show 16 * (k % 192) + 1 * (x 0).val = 16 * (k % 192) + (x 0).val; omega
  | ⟨1, _⟩ => show 0 + 1 * (x 1).val = (x 1).val; omega

/-- The kernel's ratio of a channel. -/
theorem ratio_eq (k : BitVec 32) (X : S3072x256.Idx → EReal) (y : S1x256.Idx) :
    (ratio (F := Ideal) k (grp (F := Ideal) X) y : EReal) = colMax X (y 1) * Ideal.ofBits .f32 k := by
  have e1 : ∀ w : S256.Idx → EReal, shapeCast S1x256 w shapeCasts_S256_S1x256 y = w (ix1 (y 1)) := fun w => by
    refine (shapeCast_addUnit_apply ![256] w _ y).trans (congrArg w (funext fun a => ?_))
    match a with
    | ⟨0, _⟩ => rfl
  unfold ratio
  show (shapeCast S1x256 _ shapeCasts_S256_S1x256 y : EReal) * Ideal.ofBits .f32 k = _
  refine congrArg (fun z : EReal => z * Ideal.ofBits .f32 k) ((e1 _).trans ((reduced_eq _ _ _ _ _).trans (eq_of_forall_ge_iff fun z => ?_)))
  unfold colMax
  rw [iSup_le_iff, iSup_le_iff]
  constructor
  · intro h r
    have hr : r.val < 3072 := r.isLt
    have h' := (runMax_le (grp (F := Ideal) X) (ix2 (⟨r.val % 16, Nat.mod_lt _ (by decide)⟩ : Fin 16) (y 1)) z 191).mp (h ⟨r.val % 16, Nat.mod_lt _ (by decide)⟩) (r.val / 16) (by omega)
    rw [grp_apply] at h'
    have e : (⟨16 * (r.val / 16 % 192) + r.val % 16, by omega⟩ : Fin 3072) = r := Fin.ext (by show 16 * (r.val / 16 % 192) + r.val % 16 = r.val; omega)
    rw [← e]; exact h'
  · intro h r
    refine (runMax_le (grp (F := Ideal) X) (ix2 r (y 1)) z 191).mpr fun k _ => ?_
    rw [grp_apply]
    exact h _

/-! ## The exponent search, channel by channel -/

theorem powerV_apply (w : IVec S1x256 32) (y : S1x256.Idx) : (powerV (F := Ideal) w y : EReal) = power (w y) := rfl

theorem stepV_apply (ρ : FVec Ideal S1x256 .f32) (w : IVec S1x256 32) (bit : BitVec 32) (y : S1x256.Idx) :
    stepV ρ w bit y = step (atLeast (ρ y)) (w y) bit := rfl

theorem searchV_apply (ρ : FVec Ideal S1x256 .f32) (y : S1x256.Idx) : searchV ρ y = search (atLeast (ρ y)) := by
  simp only [searchV, search, stepV_apply, broadcast]

theorem expV_apply (ρ : FVec Ideal S1x256 .f32) (y : S1x256.Idx) : expV ρ y = expOf (search (atLeast (ρ y))) := by
  rw [← searchV_apply]; unfold expV expOf; generalize searchV ρ = w; rfl

theorem scaleV_apply (ρ : FVec Ideal S1x256 .f32) (y : S1x256.Idx) : (scaleV ρ y : EReal) = kScale (ρ y) := by
  unfold scaleV kScale; rw [← expV_apply]; generalize expV ρ = w; rfl

theorem invV_apply (ρ : FVec Ideal S1x256 .f32) (y : S1x256.Idx) : (invV ρ y : EReal) = kInv (ρ y) := by
  unfold invV kInv; rw [← expV_apply]; generalize expV ρ = w; rfl

/-! ## The codes and the scales of a whole array -/

/-- The ratio of channel `c`. -/
def chan {C : ℕ} (k : BitVec 32) (X : (⟨2, ![3072, C]⟩ : Shape).Idx → EReal) (c : Fin C) : EReal := colMax X c * Ideal.ofBits .f32 k

/-- The scales of an array, a row. -/
def scales {C : ℕ} (k : BitVec 32) (X : (⟨2, ![3072, C]⟩ : Shape).Idx → EReal) : (⟨2, ![1, C]⟩ : Shape).Idx → EReal :=
  fun y => kScale (chan k X (y 1))

/-- The codes of an array, given the greatest code. -/
def codes {C : ℕ} (k : BitVec 32) (lo hi : EReal) (X : (⟨2, ![3072, C]⟩ : Shape).Idx → EReal) : (⟨2, ![3072, C]⟩ : Shape).Idx → EReal :=
  fun y => min hi (max lo (X y * kInv (chan k X (y 1))))

/-- Block `j` of 256 columns of an array. -/
def blk {C : ℕ} (hC : 0 < C) (X : (⟨2, ![3072, C]⟩ : Shape).Idx → EReal) (j : ℕ) : S3072x256.Idx → EReal :=
  fun y => X (ix2 (y 0) ⟨(256 * j + (y 1).val) % C, Nat.mod_lt _ hC⟩)

theorem colMax_blk {C : ℕ} (hC : 0 < C) (X : (⟨2, ![3072, C]⟩ : Shape).Idx → EReal) (j : ℕ) (c : Fin 256) :
    colMax (blk hC X j) c = colMax X ⟨(256 * j + c.val) % C, Nat.mod_lt _ hC⟩ := rfl

/-- The kernel's scales of a block are the scales of its columns. -/
theorem scale_blk {C : ℕ} (hC : 0 < C) (k : BitVec 32) (X : (⟨2, ![3072, C]⟩ : Shape).Idx → EReal) (j : ℕ) (y : S1x256.Idx) :
    (scaleV (F := Ideal) (ratio (F := Ideal) k (grp (F := Ideal) (blk hC X j))) y : EReal)
      = scales k X (ix2 (0 : Fin 1) ⟨(256 * j + (y 1).val) % C, Nat.mod_lt _ hC⟩) := by
  rw [scaleV_apply, ratio_eq]; rfl

theorem inv_blk {C : ℕ} (hC : 0 < C) (k : BitVec 32) (X : (⟨2, ![3072, C]⟩ : Shape).Idx → EReal) (j : ℕ) (y : S1x256.Idx) :
    (invV (F := Ideal) (ratio (F := Ideal) k (grp (F := Ideal) (blk hC X j))) y : EReal)
      = kInv (chan k X ⟨(256 * j + (y 1).val) % C, Nat.mod_lt _ hC⟩) := by
  rw [invV_apply, ratio_eq]; rfl

/-- The codes of `x`. -/
abbrev xCodes (X : S3072x3840.Idx → EReal) : S3072x3840.Idx → EReal :=
  codes 0x3B124925#32 (Ideal.ofBits .bf16 0xC3E0#16) (Ideal.ofBits .bf16 0x43E0#16) X
/-- The codes of `dy`. -/
abbrev dyCodes (X : S3072x5632.Idx → EReal) : S3072x5632.Idx → EReal :=
  codes 0x37924925#32 (Ideal.ofBits .bf16 0xC760#16) (Ideal.ofBits .bf16 0x4760#16) X
/-- The scales of `x`. -/
abbrev xScales (X : S3072x3840.Idx → EReal) : S1x3840.Idx → EReal := scales 0x3B124925#32 X
/-- The scales of `dy`. -/
abbrev dyScales (X : S3072x5632.Idx → EReal) : S1x5632.Idx → EReal := scales 0x37924925#32 X

/-- The kernel's codes of a block of `x` are the block of the codes. -/
theorem blockX_blk (X : S3072x3840.Idx → EReal) (j : ℕ) :
    blockX (F := Ideal) (blk (C := 3840) (by decide) X j) (invX (F := Ideal) (blk (C := 3840) (by decide) X j)) = blk (C := 3840) (by decide) (xCodes X) j := by
  funext y
  have e := inv_blk (C := 3840) (by decide) 0x3B124925#32 X j (ix2 (0 : Fin 1) (y 1))
  show min (Ideal.ofBits .bf16 0x43E0#16) (max (Ideal.ofBits .bf16 0xC3E0#16) ((blk (C := 3840) (by decide) X j y) * (invX (F := Ideal) (blk (C := 3840) (by decide) X j) (ix2 (0 : Fin 1) (y 1)) : EReal))) = _
  refine (congrArg (fun z : EReal => min (Ideal.ofBits .bf16 0x43E0#16) (max (Ideal.ofBits .bf16 0xC3E0#16) ((blk (C := 3840) (by decide) X j y) * z))) e).trans ?_
  rfl

/-- The kernel's codes of a block of `dy` are the block of the codes. -/
theorem blockDy_blk (X : S3072x5632.Idx → EReal) (j : ℕ) :
    blockDy (F := Ideal) (blk (C := 5632) (by decide) X j) (invDy (F := Ideal) (blk (C := 5632) (by decide) X j)) = blk (C := 5632) (by decide) (dyCodes X) j := by
  funext y
  have e := inv_blk (C := 5632) (by decide) 0x37924925#32 X j (ix2 (0 : Fin 1) (y 1))
  refine (congrArg (fun z : EReal => min (Ideal.ofBits .bf16 0x4760#16) (max (Ideal.ofBits .bf16 0xC760#16) ((blk (C := 5632) (by decide) X j y) * z))) e).trans ?_
  rfl

end Cert.KernelIdeal.Quant
-- ==== Proof.State.lean ====
module

public import proofs.«01_k».proof.Proof.Channels
public import proofs.«01_k».proof.Proof.Stores

/-! # What the scratch holds from step to step

The kernel's expected results as functions of its three arrays, and what the four scratch buffers hold
before a step: the codes and the scales of the blocks of `x` read so far, and, from step 16 on, the codes
and the scales of the block of `dy` read one step before, in the slot the step reads. Each kind of step
carries this to the next step, and a step's output block follows from it. -/

@[expose] public section

set_option maxRecDepth 16384

noncomputable section

namespace Cert.KernelIdeal.Quant

open Cert.KernelIdeal Cert.KernelIdeal.Gen
open Idealize.ShloMosaic Idealize.ShloMosaic.TcCoe
open Idealize.ShloMosaic.ValueIdx (ix1 ix2 ix3)

/-- The expected gradient: what was there plus the product of the codes, scaled back. -/
def outs (X : S3072x3840.Idx → EReal) (DY : S3072x5632.Idx → EReal) (MG : S5632x3840.Idx → EReal) : S5632x3840.Idx → EReal :=
  fun y => MG y + (∑ k : Fin 3072, dyCodes DY (ix2 k (y 0)) * xCodes X (ix2 k (y 1)))
    * dyScales DY (ix2 (0 : Fin 1) (y 0)) * xScales X (ix2 (0 : Fin 1) (y 1))

/-- Row `r` of block `j` of 256 rows (or columns) among 5632. -/
def at5632 (j : ℕ) (r : Fin 256) : Fin 5632 := ⟨(256 * j + r.val) % 5632, Nat.mod_lt _ (by decide)⟩

/-- Block `j` of 256 rows. -/
def blkRows (G : S5632x3840.Idx → EReal) (j : ℕ) : S256x3840.Idx → EReal := fun y => G (ix2 (at5632 j (y 0)) (y 1))

/-- Block `j` of 256 columns of `x` and of `dy`. -/
abbrev xBlk (X : S3072x3840.Idx → EReal) (j : ℕ) : S3072x256.Idx → EReal := blk (C := 3840) (by decide) X j
@[inherit_doc xBlk] abbrev dyBlk (X : S3072x5632.Idx → EReal) (j : ℕ) : S3072x256.Idx → EReal := blk (C := 5632) (by decide) X j

/-- What the four scratch buffers hold before step `t`. -/
structure Good (X : S3072x3840.Idx → EReal) (DY : S3072x5632.Idx → EReal) (t : ℕ) (e0 : S3072x3840.Idx → EReal) (e1 : S2x256x3072.Idx → EReal)
    (e2 : S1x3840.Idx → EReal) (e3 : S2x256x128.Idx → EReal) : Prop where
  xq : ∀ y : S3072x3840.Idx, (y 1).val < 256 * min t 15 → e0 y = xCodes X y
  xs : ∀ y : S1x3840.Idx, (y 1).val < 256 * min t 15 → e2 y = xScales X y
  dyq : 16 ≤ t → ∀ y : S2x256x3072.Idx, (y 0).val = t % 2 → e1 y = dyCodes DY (ix2 (y 2) (at5632 (min (t - 16) 21) (y 1)))
  dys : 16 ≤ t → ∀ y : S2x256x128.Idx, (y 0).val = t % 2 → e3 y = dyScales DY (ix2 (0 : Fin 1) (at5632 (min (t - 16) 21) (y 1)))

theorem good_zero (X : S3072x3840.Idx → EReal) (DY : S3072x5632.Idx → EReal) (e0 : S3072x3840.Idx → EReal) (e1 : S2x256x3072.Idx → EReal)
    (e2 : S1x3840.Idx → EReal) (e3 : S2x256x128.Idx → EReal) : Good X DY 0 e0 e1 e2 e3 where
  xq _ h := absurd h (by omega)
  xs _ h := absurd h (by omega)
  dyq h := absurd h (by omega)
  dys h := absurd h (by omega)

/-- A buffer right up to column `o` is right up to column `o + W` once the next `W` columns are written. -/
theorem patch_right {R C W : ℕ} (o : ℕ) (G d : (⟨2, ![R, C]⟩ : Shape).Idx → EReal) (p : (⟨2, ![R, W]⟩ : Shape).Idx → EReal)
    (hd : ∀ y : (⟨2, ![R, C]⟩ : Shape).Idx, (y 1).val < o → d y = G y)
    (hp : ∀ (r : Fin R) (q : Fin W) (h : o + q.val < C), p (ix2 r q) = G (ix2 r ⟨o + q.val, h⟩)) :
    ∀ y : (⟨2, ![R, C]⟩ : Shape).Idx, (y 1).val < o + W → patchCols o d p y = G y := fun y hy => by
  unfold patchCols
  by_cases h : o ≤ (y 1).val ∧ (y 1).val < o + W
  · rw [dif_pos h]
    have hlt : (y 1).val < C := (y 1).isLt
    refine (hp (y 0) ⟨(y 1).val - o, by omega⟩ (by show o + ((y 1).val - o) < C; omega)).trans (congrArg G (funext fun a => Fin.ext ?_))
    match a with
    | ⟨0, _⟩ => rfl
    | ⟨1, _⟩ => show o + ((y 1).val - o) = (y 1).val; omega
  · rw [dif_neg h]
    exact hd y (by omega)

/-- The codes of block `j` of `x`, placed at its columns. -/
theorem xBlk_at (X : S3072x3840.Idx → EReal) (j : ℕ) (r : Fin 3072) (q : Fin 256) (h : 256 * j + q.val < 3840) :
    xBlk (xCodes X) j (ix2 r q) = xCodes X (ix2 r ⟨256 * j + q.val, h⟩) :=
  congrArg (xCodes X) (congrArg (ix2 r) (Fin.ext (Nat.mod_eq_of_lt h)))

/-- The scales of block `j` of `x`, placed at its columns. -/
theorem xScale_at (X : S3072x3840.Idx → EReal) (j : ℕ) (r : Fin 1) (q : Fin 256) (h : 256 * j + q.val < 3840) :
    (scaleX (F := Ideal) (xBlk X j) (ix2 r q) : EReal) = xScales X (ix2 r ⟨256 * j + q.val, h⟩) :=
  (scale_blk (C := 3840) (by decide) _ X j (ix2 r q)).trans
    (congrArg (xScales X) (congrArg₂ ix2 (Subsingleton.elim _ _) (Fin.ext (Nat.mod_eq_of_lt h))))

/-- The scales of block `j` of `dy`, placed at its columns. -/
theorem dyScale_at (X : S3072x5632.Idx → EReal) (j : ℕ) (r : Fin 1) (q : Fin 256) (h : 256 * j + q.val < 5632) :
    (scaleDy (F := Ideal) (dyBlk X j) (ix2 r q) : EReal) = dyScales X (ix2 r ⟨256 * j + q.val, h⟩) :=
  (scale_blk (C := 5632) (by decide) _ X j (ix2 r q)).trans
    (congrArg (dyScales X) (congrArg₂ ix2 (Subsingleton.elim _ _) (Fin.ext (Nat.mod_eq_of_lt h))))

/-- The scale row of `x` after an early step. -/
theorem xs_step (X : S3072x3840.Idx → EReal) (t : ℕ) (d : S1x3840.Idx → EReal)
    (hd : ∀ y : S1x3840.Idx, (y 1).val < 256 * t → d y = xScales X y) :
    ∀ y : S1x3840.Idx, (y 1).val < 256 * (t + 1) → patchCols (256 * t) d (scaleX (F := Ideal) (xBlk X t)) y = xScales X y := fun y hy =>
  patch_right (256 * t) (xScales X) d _ hd (fun r q h => xScale_at X t r q h) y (by omega)

/-- The scale row of `dy` after a step from 15 on. -/
theorem dys_step (X : S3072x5632.Idx → EReal) (j : ℕ) (d : S1x5632.Idx → EReal)
    (hd : ∀ y : S1x5632.Idx, (y 1).val < 256 * j → d y = dyScales X y) :
    ∀ y : S1x5632.Idx, (y 1).val < 256 * (j + 1) → patchCols (256 * j) d (scaleDy (F := Ideal) (dyBlk X j)) y = dyScales X y := fun y hy =>
  patch_right (256 * j) (dyScales X) d _ hd (fun r q h => dyScale_at X j r q h) y (by omega)

/-- An early step. -/
theorem good_early {X : S3072x3840.Idx → EReal} {DY : S3072x5632.Idx → EReal} {t : ℕ} (ht : t < 15) {e0 : S3072x3840.Idx → EReal}
    {e1 : S2x256x3072.Idx → EReal} {e2 : S1x3840.Idx → EReal} {e3 : S2x256x128.Idx → EReal} (h : Good X DY t e0 e1 e2 e3) :
    Good X DY (t + 1) (patchCols (256 * t) e0 (xBlk (xCodes X) t)) e1 (patchCols (256 * t) e2 (scaleX (F := Ideal) (xBlk X t))) e3 where
  xq y hy := patch_right (256 * t) (xCodes X) e0 _ (fun y hy => h.xq y (by omega)) (fun r q hq => xBlk_at X t r q hq) y (by omega)
  xs y hy := xs_step X t e2 (fun y hy => h.xs y (by omega)) y (by omega)
  dyq h := absurd h (by omega)
  dys h := absurd h (by omega)

/-- A step that reads a block of `dy`. -/
theorem good_late {X : S3072x3840.Idx → EReal} {DY : S3072x5632.Idx → EReal} {t s : ℕ} (ht : 15 ≤ t) (hs : s = (t + 1) % 2) {e0 : S3072x3840.Idx → EReal}
    {e1 : S2x256x3072.Idx → EReal} {e2 : S1x3840.Idx → EReal} {e3 : S2x256x128.Idx → EReal} (h : Good X DY t e0 e1 e2 e3) :
    Good X DY (t + 1) e0 (slotCodes s e1 (dyBlk (dyCodes DY) (min (t - 15) 21))) e2
      (slotScale s e3 (scaleDy (F := Ideal) (dyBlk DY (min (t - 15) 21)))) where
  xq y hy := h.xq y (by omega)
  xs y hy := h.xs y (by omega)
  dyq _ y hy := by
    unfold slotCodes
    rw [if_pos (hy.trans hs.symm), show t + 1 - 16 = t - 15 by omega]; rfl
  dys _ y hy := by
    unfold slotScale
    rw [if_pos (hy.trans hs.symm), show t + 1 - 16 = t - 15 by omega]
    exact scale_blk (C := 5632) (by decide) _ DY (min (t - 15) 21) (ix2 (0 : Fin 1) (y 1))

/-- The block a step after step 15 writes is a block of the expected gradient. -/
theorem outBlock_eq {X : S3072x3840.Idx → EReal} {DY : S3072x5632.Idx → EReal} (MG : S5632x3840.Idx → EReal) {t : ℕ} (ht : 16 ≤ t) {s : Fin 2}
    (hs : s.val = t % 2) {e0 : S3072x3840.Idx → EReal}
    {e1 : S2x256x3072.Idx → EReal} {e2 : S1x3840.Idx → EReal} {e3 : S2x256x128.Idx → EReal} (h : Good X DY t e0 e1 e2 e3) :
    outBlock (blkRows MG (min (t - 16) 21)) e0 e1 e2 e3 s = blkRows (outs X DY MG) (min (t - 16) 21) := by
  funext y
  have hy1 : (y 1).val < 3840 := (y 1).isLt
  have h0 : ∀ k : Fin 3072, e0 (ix2 k (y 1)) = xCodes X (ix2 k (y 1)) := fun k => h.xq _ (by show (y 1).val < _; omega)
  have h2 : e2 (ix2 (0 : Fin 1) (y 1)) = xScales X (ix2 (0 : Fin 1) (y 1)) := h.xs _ (by show (y 1).val < _; omega)
  have h1 : ∀ k : Fin 3072, e1 (ix3 s (y 0) k) = dyCodes DY (ix2 k (at5632 (min (t - 16) 21) (y 0))) := fun k => h.dyq ht (ix3 s (y 0) k) hs
  have h3 : ∀ l : Fin 128, e3 (ix3 s (y 0) l) = dyScales DY (ix2 (0 : Fin 1) (at5632 (min (t - 16) 21) (y 0))) := fun l => h.dys ht (ix3 s (y 0) l) hs
  unfold outBlock blkRows outs
  refine congrArg₂ (· + ·) rfl (congrArg₂ (· * ·) (congrArg₂ (· * ·) (Finset.sum_congr rfl fun k _ => congrArg₂ (· * ·) (h1 k) (h0 k)) (h3 _)) h2)

end Cert.KernelIdeal.Quant
-- ==== Proof.Windows.lean ====
module

public import proofs.«01_k».proof.Proof.State
public import proofs.«01_k».proof.Proof.Gen.KernelIdeal.Frame
public import Idealize.ShloMosaic.Lib.Pipeline.ValueKit

/-! # The windows' blocks

Which block of its array each window holds at each of the 38 steps, read and written as functions of
the whole array; at which steps the outputs are written back; and that the blocks written back cover
the arrays. -/

@[expose] public section

set_option maxRecDepth 16384

noncomputable section

namespace Cert.KernelIdeal.Quant

open Cert.KernelIdeal Cert.KernelIdeal.Gen
open Idealize.ShloMosaic Idealize.ShloMosaic.TcCoe
open Idealize.ShloMosaic.ValueIdx (ix1 ix2 ix3)

theorem coords_val : ∀ t : Fin cfg0.N, (grid0.coords t 0).val = t.val := (by decide +kernel : ∀ t : Fin grid0.N, (grid0.coords t 0).val = t.val)

/-! ## The block indices -/

theorem index0 : ∀ t : Fin grid0.N, win0_0.index t 0 = 0 ∧ win0_0.index t 1 = min t.val 14 := by decide +kernel
theorem index1 : ∀ t : Fin grid0.N, win0_1.index t 0 = 0 ∧ win0_1.index t 1 = min (t.val - 15) 21 := by decide +kernel
theorem index2 : ∀ t : Fin grid0.N, win0_2.index t 0 = min (t.val - 16) 21 ∧ win0_2.index t 1 = 0 := by decide +kernel
theorem index3 : ∀ t : Fin grid0.N, win0_3.index t 0 = min (t.val - 16) 21 ∧ win0_3.index t 1 = 0 := by decide +kernel
theorem index4 : ∀ t : Fin grid0.N, win0_4.index t 0 = 0 ∧ win0_4.index t 1 = min t.val 14 := by decide +kernel
theorem index5 : ∀ t : Fin grid0.N, win0_5.index t 0 = 0 ∧ win0_5.index t 1 = 0 := by decide +kernel
theorem index6 : ∀ t : Fin grid0.N, win0_6.index t 0 = 0 ∧ win0_6.index t 1 = min (t.val - 15) 21 := by decide +kernel
theorem index7 : ∀ t : Fin grid0.N, win0_7.index t 0 = 0 ∧ win0_7.index t 1 = 0 := by decide +kernel

/-! ## The steps at which the outputs are fetched into and written back -/

theorem flush3 : ∀ t : Fin grid0.N, win0_3.flush t = true → 16 ≤ t.val := by decide +kernel
theorem flush4 : ∀ t : Fin grid0.N, win0_4.flush t = true ↔ t.val < 14 ∨ t.val = 37 := by decide +kernel
theorem flush5 : ∀ t : Fin grid0.N, win0_5.flush t = true ↔ t.val = 37 := by decide +kernel
theorem flush6 : ∀ t : Fin grid0.N, win0_6.flush t = true → 15 ≤ t.val := by decide +kernel
theorem flush7 : ∀ t : Fin grid0.N, win0_7.flush t = true ↔ t.val = 37 := by decide +kernel
theorem fetch4 : ∀ t : Fin grid0.N, win0_4.fetch t = false := by decide +kernel
theorem fetch5 : ∀ t : Fin grid0.N, win0_5.fetch t = false := by decide +kernel
theorem fetch7 : ∀ t : Fin grid0.N, win0_7.fetch t = false := by decide +kernel

/-! ## A block of an array -/

theorem read0 (X : S3072x3840.Idx → EReal) (t : Fin cfg0.N) : ((cfg0.win 0).blk t).view.read (Elt Ideal) X = xBlk X (min t.val 14) := by
  funext y
  refine congrArg X (funext fun a => Fin.ext ?_)
  have h := index0 t
  have h1 : (y 1).val < 256 := (y 1).isLt
  match a with
  | ⟨0, _⟩ => exact (win0_0.rect_emb_val t y 0).trans (by rw [h.1]; show 0 * 3072 + (y 0).val = (y 0).val; omega)
  | ⟨1, _⟩ => exact (win0_0.rect_emb_val t y 1).trans (by rw [h.2]; show min t.val 14 * 256 + (y 1).val = (256 * min t.val 14 + (y 1).val) % 3840; omega)

theorem read1 (X : S3072x5632.Idx → EReal) (t : Fin cfg0.N) : ((cfg0.win 1).blk t).view.read (Elt Ideal) X = dyBlk X (min (t.val - 15) 21) := by
  funext y
  refine congrArg X (funext fun a => Fin.ext ?_)
  have h := index1 t
  have h1 : (y 1).val < 256 := (y 1).isLt
  match a with
  | ⟨0, _⟩ => exact (win0_1.rect_emb_val t y 0).trans (by rw [h.1]; show 0 * 3072 + (y 0).val = (y 0).val; omega)
  | ⟨1, _⟩ => exact (win0_1.rect_emb_val t y 1).trans (by rw [h.2]; show min (t.val - 15) 21 * 256 + (y 1).val = (256 * min (t.val - 15) 21 + (y 1).val) % 5632; omega)

theorem read2 (X : S5632x3840.Idx → EReal) (t : Fin cfg0.N) : ((cfg0.win 2).blk t).view.read (Elt Ideal) X = blkRows X (min (t.val - 16) 21) := by
  funext y
  refine congrArg X (funext fun a => Fin.ext ?_)
  have h := index2 t
  have h0 : (y 0).val < 256 := (y 0).isLt
  match a with
  | ⟨0, _⟩ => exact (win0_2.rect_emb_val t y 0).trans (by rw [h.1]; show min (t.val - 16) 21 * 256 + (y 0).val = (256 * min (t.val - 16) 21 + (y 0).val) % 5632; omega)
  | ⟨1, _⟩ => exact (win0_2.rect_emb_val t y 1).trans (by rw [h.2]; show 0 * 3840 + (y 1).val = (y 1).val; omega)

theorem read3 (X : S5632x3840.Idx → EReal) (t : Fin cfg0.N) : ((cfg0.win 3).blk t).view.read (Elt Ideal) X = blkRows X (min (t.val - 16) 21) := by
  funext y
  refine congrArg X (funext fun a => Fin.ext ?_)
  have h := index3 t
  have h0 : (y 0).val < 256 := (y 0).isLt
  match a with
  | ⟨0, _⟩ => exact (win0_3.rect_emb_val t y 0).trans (by rw [h.1]; show min (t.val - 16) 21 * 256 + (y 0).val = (256 * min (t.val - 16) 21 + (y 0).val) % 5632; omega)
  | ⟨1, _⟩ => exact (win0_3.rect_emb_val t y 1).trans (by rw [h.2]; show 0 * 3840 + (y 1).val = (y 1).val; omega)

theorem read4 (X : S3072x3840.Idx → EReal) (t : Fin cfg0.N) : ((cfg0.win 4).blk t).view.read (Elt Ideal) X = xBlk X (min t.val 14) := by
  funext y
  refine congrArg X (funext fun a => Fin.ext ?_)
  have h := index4 t
  have h1 : (y 1).val < 256 := (y 1).isLt
  match a with
  | ⟨0, _⟩ => exact (win0_4.rect_emb_val t y 0).trans (by rw [h.1]; show 0 * 3072 + (y 0).val = (y 0).val; omega)
  | ⟨1, _⟩ => exact (win0_4.rect_emb_val t y 1).trans (by rw [h.2]; show min t.val 14 * 256 + (y 1).val = (256 * min t.val 14 + (y 1).val) % 3840; omega)

theorem read5 (X : S1x3840.Idx → EReal) (t : Fin cfg0.N) : ((cfg0.win 5).blk t).view.read (Elt Ideal) X = X := by
  funext y
  refine congrArg X (funext fun a => Fin.ext ?_)
  have h := index5 t
  match a with
  | ⟨0, _⟩ => exact win0_5.rect_emb_val_of_index_zero t 0 h.1 y
  | ⟨1, _⟩ => exact win0_5.rect_emb_val_of_index_zero t 1 h.2 y

theorem read6 (X : S3072x5632.Idx → EReal) (t : Fin cfg0.N) : ((cfg0.win 6).blk t).view.read (Elt Ideal) X = dyBlk X (min (t.val - 15) 21) := by
  funext y
  refine congrArg X (funext fun a => Fin.ext ?_)
  have h := index6 t
  have h1 : (y 1).val < 256 := (y 1).isLt
  match a with
  | ⟨0, _⟩ => exact (win0_6.rect_emb_val t y 0).trans (by rw [h.1]; show 0 * 3072 + (y 0).val = (y 0).val; omega)
  | ⟨1, _⟩ => exact (win0_6.rect_emb_val t y 1).trans (by rw [h.2]; show min (t.val - 15) 21 * 256 + (y 1).val = (256 * min (t.val - 15) 21 + (y 1).val) % 5632; omega)

theorem read7 (X : S1x5632.Idx → EReal) (t : Fin cfg0.N) : ((cfg0.win 7).blk t).view.read (Elt Ideal) X = X := by
  funext y
  refine congrArg X (funext fun a => Fin.ext ?_)
  have h := index7 t
  match a with
  | ⟨0, _⟩ => exact win0_7.rect_emb_val_of_index_zero t 0 h.1 y
  | ⟨1, _⟩ => exact win0_7.rect_emb_val_of_index_zero t 1 h.2 y

/-! ## The blocks written back cover the arrays -/

theorem covers3 : win0_3.Covers := by decide +kernel
theorem covers4 : win0_4.Covers := by decide +kernel
theorem covers5 : win0_5.Covers := by decide +kernel
theorem covers6 : win0_6.Covers := by decide +kernel
theorem covers7 : win0_7.Covers := by decide +kernel

end Cert.KernelIdeal.Quant
-- ==== Proof.Track.lean ====
module

public import proofs.«01_k».proof.Proof.RunEarly
public import proofs.«01_k».proof.Proof.RunMid
public import proofs.«01_k».proof.Proof.RunLate
public import proofs.«01_k».proof.Proof.FrameRun
public import proofs.«01_k».proof.Proof.Windows

/-! # The kernel's run over the reals, with what it writes

The pipeline's proof data say of each step what the body leaves in the outputs' buffers, and of the
scratch what `Good` says. The body's obligation is the three kinds of step; the run theorem then gives
an execution whose outputs were all left so. -/

@[expose] public section

set_option maxRecDepth 16384

noncomputable section

namespace Cert.KernelIdeal.Track

open Cert.KernelIdeal Cert.KernelIdeal.Gen Cert.KernelIdeal.Quant Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

/-! ## The steps at a point of the grid -/

theorem good_early_at {X : S3072x3840.Idx → EReal} {DY : S3072x5632.Idx → EReal} {e0 : S3072x3840.Idx → EReal} {e1 : S2x256x3072.Idx → EReal}
    {e2 : S1x3840.Idx → EReal} {e3 : S2x256x128.Idx → EReal} (t : Fin cfg0.N) (h : (grid0.coords t 0).val < 15) (hG : Good X DY t.val e0 e1 e2 e3) :
    Good X DY (t.val + 1) (patchCols (256 * (grid0.coords t 0).val) e0 (blockX (F := Ideal) (xBlk X (min t.val 14)) (invX (F := Ideal) (xBlk X (min t.val 14))))) e1
      (patchCols (256 * (grid0.coords t 0).val) e2 (scaleX (F := Ideal) (xBlk X (min t.val 14)))) e3 := by
  rw [coords_val] at h ⊢
  rw [show min t.val 14 = t.val by omega, blockX_blk]
  exact good_early h hG

theorem xq_early_at (X : S3072x3840.Idx → EReal) (t : Fin cfg0.N) :
    blockX (F := Ideal) (xBlk X (min t.val 14)) (invX (F := Ideal) (xBlk X (min t.val 14))) = xBlk (xCodes X) (min t.val 14) := blockX_blk X _

theorem xs_early_at {X : S3072x3840.Idx → EReal} {d : S1x3840.Idx → EReal} (t : Fin cfg0.N) (h : (grid0.coords t 0).val < 15)
    (hd : ∀ y : S1x3840.Idx, (y 1).val < 256 * min t.val 15 → d y = xScales X y) :
    ∀ y : S1x3840.Idx, (y 1).val < 256 * min (t.val + 1) 15 → patchCols (256 * (grid0.coords t 0).val) d (scaleX (F := Ideal) (xBlk X (min t.val 14))) y = xScales X y := by
  rw [coords_val] at h ⊢
  rw [show min t.val 14 = t.val by omega]
  exact fun y hy => xs_step X t.val d (fun y hy => hd y (by omega)) y (by omega)

theorem good_late_at {X : S3072x3840.Idx → EReal} {DY : S3072x5632.Idx → EReal} {e0 : S3072x3840.Idx → EReal} {e1 : S2x256x3072.Idx → EReal}
    {e2 : S1x3840.Idx → EReal} {e3 : S2x256x128.Idx → EReal} (t : Fin cfg0.N) (h : 15 ≤ (grid0.coords t 0).val) (hG : Good X DY t.val e0 e1 e2 e3) :
    Good X DY (t.val + 1) e0
      (slotCodes (slot (grid0.coords t)) e1 (blockDy (F := Ideal) (dyBlk DY (min (t.val - 15) 21)) (invDy (F := Ideal) (dyBlk DY (min (t.val - 15) 21))))) e2
      (slotScale (slot (grid0.coords t)) e3 (scaleDy (F := Ideal) (dyBlk DY (min (t.val - 15) 21)))) := by
  have hs := slot_eq (grid0.coords t) h
  rw [coords_val] at h hs
  rw [blockDy_blk]
  exact good_late h hs hG

theorem dys_late_at {X : S3072x5632.Idx → EReal} {d : S1x5632.Idx → EReal} (t : Fin cfg0.N) (h : 15 ≤ (grid0.coords t 0).val)
    (hd : ∀ y : S1x5632.Idx, (y 1).val < 256 * min (t.val - 15) 22 → d y = dyScales X y) :
    ∀ y : S1x5632.Idx, (y 1).val < 256 * min (t.val + 1 - 15) 22 →
      patchCols (rowCol (grid0.coords t)) d (scaleDy (F := Ideal) (dyBlk X (min (t.val - 15) 21))) y = dyScales X y := by
  rw [rowCol_eq _ h, coords_val]
  rw [coords_val] at h
  exact fun y hy => dys_step X (min (t.val - 15) 21) d (fun y hy => hd y (by omega)) y (by omega)

theorem out_late_at {X : S3072x3840.Idx → EReal} {DY : S3072x5632.Idx → EReal} (MG : S5632x3840.Idx → EReal) {e0 : S3072x3840.Idx → EReal} {e1 : S2x256x3072.Idx → EReal}
    {e2 : S1x3840.Idx → EReal} {e3 : S2x256x128.Idx → EReal} (t : Fin cfg0.N) (h : 16 ≤ (grid0.coords t 0).val) (hG : Good X DY t.val e0 e1 e2 e3) :
    outBlock (blkRows MG (min (t.val - 16) 21)) e0 e1 e2 e3 (slotIn (grid0.coords t)) = blkRows (outs X DY MG) (min (t.val - 16) 21) := by
  have hs : (slotIn (grid0.coords t)).val = t.val % 2 := by
    show slotRead (grid0.coords t) % 2 = _
    rw [slotRead_eq _ h, coords_val]; omega
  rw [coords_val] at h
  exact outBlock_eq MG h hs hG

/-! ## The proof data and the body's obligation -/

variable (m : (ℓ : Loc nD τ sig) → Buf (Elt Ideal) ℓ) (ρ : Dev nD → PrngReg)

/-- The kernel's three arrays as the region finds them. -/
def xArr (c : Dev nD) : S3072x3840.Idx → EReal := V m c main_v0
@[inherit_doc xArr] def dyArr (c : Dev nD) : S3072x5632.Idx → EReal := V m c main_v1
@[inherit_doc xArr] def mgArr (c : Dev nD) : S5632x3840.Idx → EReal := V m c main_arg2

/-- The scratch before step `t`. -/
def scratchAt (X : S3072x3840.Idx → EReal) (DY : S3072x5632.Idx → EReal) (c : Dev nD) (t : ℕ) : sProp 𝕄 :=
  iprop(∃ e0 e1 e2 e3, ⌜Good X DY t e0 e1 e2 e3⌝ ∗ (owns (c : Thread nD τ) (Memref.whole cc0_scratch0) fullShare e0
    ∗ owns (c : Thread nD τ) (Memref.whole cc0_scratch1) fullShare e1 ∗ owns (c : Thread nD τ) (Memref.whole cc0_scratch2) fullShare e2
    ∗ owns (c : Thread nD τ) (Memref.whole cc0_scratch3) fullShare e3 ∗ (∃ r, prngReg c r)))

/-- What step `t` leaves in the buffers of the gradient, of the codes and scales of `x`, and of the codes and scales of `dy`. -/
def After3 (X : S3072x3840.Idx → EReal) (DY : S3072x5632.Idx → EReal) (MG : S5632x3840.Idx → EReal) (t : ℕ) (Z : S256x3840.Idx → EReal) : Prop :=
  16 ≤ t → Z = blkRows (outs X DY MG) (min (t - 16) 21)
@[inherit_doc After3] def After4 (X : S3072x3840.Idx → EReal) (t : ℕ) (Z : S3072x256.Idx → EReal) : Prop := Z = xBlk (xCodes X) (min t 14)
@[inherit_doc After3] def After5 (X : S3072x3840.Idx → EReal) (t : ℕ) (Z : S1x3840.Idx → EReal) : Prop :=
  ∀ y : S1x3840.Idx, (y 1).val < 256 * min (t + 1) 15 → Z y = xScales X y
@[inherit_doc After3] def After6 (DY : S3072x5632.Idx → EReal) (t : ℕ) (Z : S3072x256.Idx → EReal) : Prop :=
  15 ≤ t → Z = dyBlk (dyCodes DY) (min (t - 15) 21)
@[inherit_doc After3] def After7 (DY : S3072x5632.Idx → EReal) (t : ℕ) (Z : S1x5632.Idx → EReal) : Prop :=
  ∀ y : S1x5632.Idx, (y 1).val < 256 * min (t + 1 - 15) 22 → Z y = dyScales DY y

/-- The proof data on core `c`. -/
def rdat (c : Dev nD) : RDat τ (Elt Ideal) Unit ℕ (UR sig nD τ) ℕ cfg0 c where
  A w := V m c (Pipeline.arrRef spec0 w)
  after
    | 0, _, Y, Z => Z = Y
    | 1, _, Y, Z => Z = Y
    | 2, _, Y, Z => Z = Y
    | 3, t, _, Z => After3 (xArr m c) (dyArr m c) (mgArr m c) t.val Z
    | 4, t, _, Z => After4 (xArr m c) t.val Z
    | 5, t, _, Z => After5 (xArr m c) t.val Z
    | 6, t, _, Z => After6 (dyArr m c) t.val Z
    | 7, t, _, Z => After7 (dyArr m c) t.val Z
    | ⟨_ + 8, h⟩, _, _, _ => absurd h (Nat.not_lt.2 (Nat.le_add_left _ _))
  Φ t := scratchAt (xArr m c) (dyArr m c) c t.val
  q _ := fullShare
  owed _ := 0

section body

variable (X : S3072x3840.Idx → EReal) (DY : S3072x5632.Idx → EReal) (MG : S5632x3840.Idx → EReal)
variable (O : sProp 𝕄) (Y0 : S3072x256.Idx → EReal) (Y1 : S3072x256.Idx → EReal) (Y2 : S256x3840.Idx → EReal) (Y3 : S256x3840.Idx → EReal)
variable (Y4 : S3072x256.Idx → EReal) (Y5 : S1x3840.Idx → EReal) (Y6 : S3072x256.Idx → EReal) (Y7 : S1x5632.Idx → EReal)

/-- What the body is called with at point `t`. -/
def bodyPre (c : Dev nD) (t : Fin cfg0.N) : sProp 𝕄 :=
  iprop(scratchAt X DY c t.val ∗ O
    ∗ owns (c : Thread nD τ) (st0_0 t) fullShare Y0 ∗ owns (c : Thread nD τ) (st0_1 t) fullShare Y1 ∗ owns (c : Thread nD τ) (st0_2 t) fullShare Y2 ∗ owns (c : Thread nD τ) (st0_3 t) fullShare Y3 ∗ owns (c : Thread nD τ) (st0_4 t) fullShare Y4 ∗ owns (c : Thread nD τ) (st0_5 t) fullShare Y5 ∗ owns (c : Thread nD τ) (st0_6 t) fullShare Y6 ∗ owns (c : Thread nD τ) (st0_7 t) fullShare Y7)
/-- What the body returns. -/
def bodyPost (c : Dev nD) (t : Fin cfg0.N) : sProp 𝕄 :=
  iprop(scratchAt X DY c (t.val + 1) ∗ O
    ∗ owns (c : Thread nD τ) (st0_0 t) fullShare Y0 ∗ owns (c : Thread nD τ) (st0_1 t) fullShare Y1 ∗ owns (c : Thread nD τ) (st0_2 t) fullShare Y2
    ∗ (∃ d, ⌜After3 X DY MG t.val d⌝ ∗ owns (c : Thread nD τ) (st0_3 t) fullShare d) ∗ (∃ d, ⌜After4 X t.val d⌝ ∗ owns (c : Thread nD τ) (st0_4 t) fullShare d)
    ∗ (∃ d, ⌜After5 X t.val d⌝ ∗ owns (c : Thread nD τ) (st0_5 t) fullShare d) ∗ (∃ d, ⌜After6 DY t.val d⌝ ∗ owns (c : Thread nD τ) (st0_6 t) fullShare d)
    ∗ (∃ d, ⌜After7 DY t.val d⌝ ∗ owns (c : Thread nD τ) (st0_7 t) fullShare d))

/-- The body at a point, by the case the point is in. -/
theorem sound_body (c : Dev nD) (t : Fin cfg0.N) (h0 : Y0 = xBlk X (min t.val 14)) (h1 : Y1 = dyBlk DY (min (t.val - 15) 21))
    (h2 : Y2 = blkRows MG (min (t.val - 16) 21)) (hxq : 15 ≤ t.val → After4 X t.val Y4)
    (hxs : ∀ y : S1x3840.Idx, (y 1).val < 256 * min t.val 15 → Y5 y = xScales X y)
    (hdys : ∀ y : S1x5632.Idx, (y 1).val < 256 * min (t.val - 15) 22 → Y7 y = dyScales DY y) :
    bodyPre X DY O Y0 Y1 Y2 Y3 Y4 Y5 Y6 Y7 c t ⊢ wp frame (wpE (defs₀ (F := Ideal)) Variants.none c none) Set.univ (bodyAt0 t) (fun _ => bodyPost X DY MG O Y0 Y1 Y2 c t) := by
  subst h0; subst h1; subst h2
  unfold bodyPre bodyPost bodyAt0 scratchAt
  have ht := coords_val t
  iintro ⟨⟨%e0, %e1, %e2, %e3, %hG, S0, S1, S2, S3, Hg⟩, HO, H0, H1, H2, H3, H4, H5, H6, H7⟩
  rcases lt_trichotomy ((grid0.coords t) 0).val 15 with h | h | h
  · iapply (early_values (F := Ideal) c (grid0.coords t) ((cond1_iff _).mpr (by omega)) ((cond2_iff _).not.mpr (by omega)) ((cond3_iff _).not.mpr (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (xBlk X (min t.val 14)) Y5 e0 e2 _)
    isplitl [H0]; · iexact H0
    isplitl [H4]; · iexists _; iexact H4
    isplitl [H5]; · iexact H5
    isplitl [S0]; · iexact S0
    isplitl [S2]; · iexact S2
    iintro ⟨H0, H4, H5, S0, S2⟩
    isplitl [S0 S1 S2 S3 Hg]
    · iexists _, _, _, _; isplitr; swap
      · isplitl [S0]; · iexact S0
        isplitl [S1]; · iexact S1
        isplitl [S2]; · iexact S2
        isplitl [S3]; · iexact S3
        iexact Hg
      ipureintro; exact good_early_at t h hG
    isplitl [HO]; · iexact HO
    isplitl [H0]; · iexact H0
    isplitl [H1]; · iexact H1
    isplitl [H2]; · iexact H2
    isplitl [H3]
    · iexists _; isplitr; swap; · iexact H3
      ipureintro; exact fun h' => absurd h' (by omega)
    isplitl [H4]
    · iexists _; isplitr; swap; · iexact H4
      ipureintro; exact xq_early_at X t
    isplitl [H5]
    · iexists _; isplitr; swap; · iexact H5
      ipureintro; exact xs_early_at t h hxs
    isplitl [H6]
    · iexists _; isplitr; swap; · iexact H6
      ipureintro; exact fun h' => absurd h' (by omega)
    iexists _; isplitr; swap; · iexact H7
    ipureintro; exact fun y hy => absurd hy (by omega)
  · iapply (mid_values (F := Ideal) c (grid0.coords t) ((cond1_iff _).not.mpr (by omega)) ((cond2_iff _).mpr (by omega)) ((cond3_iff _).not.mpr (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (dyBlk DY (min (t.val - 15) 21)) Y7 e1 e3 _)
    isplitl [H1]; · iexact H1
    isplitl [H6]; · iexists _; iexact H6
    isplitl [H7]; · iexact H7
    isplitl [S1]; · iexact S1
    isplitl [S3]; · iexact S3
    iintro ⟨H1, H6, H7, S1, S3⟩
    isplitl [S0 S1 S2 S3 Hg]
    · iexists _, _, _, _; isplitr; swap
      · isplitl [S0]; · iexact S0
        isplitl [S1]; · iexact S1
        isplitl [S2]; · iexact S2
        isplitl [S3]; · iexact S3
        iexact Hg
      ipureintro; exact good_late_at t (by omega) hG
    isplitl [HO]; · iexact HO
    isplitl [H0]; · iexact H0
    isplitl [H1]; · iexact H1
    isplitl [H2]; · iexact H2
    isplitl [H3]
    · iexists _; isplitr; swap; · iexact H3
      ipureintro; exact fun h' => absurd h' (by omega)
    isplitl [H4]
    · iexists _; isplitr; swap; · iexact H4
      ipureintro; exact hxq (by omega)
    isplitl [H5]
    · iexists _; isplitr; swap; · iexact H5
      ipureintro; exact fun y hy => hxs y (by omega)
    isplitl [H6]
    · iexists _; isplitr; swap; · iexact H6
      ipureintro; exact fun _ => blockDy_blk _ _
    iexists _; isplitr; swap; · iexact H7
    ipureintro; exact dys_late_at t (by omega) hdys
  · iapply (late_values c (grid0.coords t) ((cond1_iff _).not.mpr (by omega)) ((cond2_iff _).not.mpr (by omega)) ((cond3_iff _).mpr (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (dyBlk DY (min (t.val - 15) 21)) (blkRows MG (min (t.val - 16) 21)) Y7 e0 e1 e2 e3 _)
    isplitl [H1]; · iexact H1
    isplitl [H2]; · iexact H2
    isplitl [H3]; · iexists _; iexact H3
    isplitl [H6]; · iexists _; iexact H6
    isplitl [H7]; · iexact H7
    isplitl [S0]; · iexact S0
    isplitl [S1]; · iexact S1
    isplitl [S2]; · iexact S2
    isplitl [S3]; · iexact S3
    iintro ⟨H1, H2, H3, H6, H7, S0, S1, S2, S3⟩
    isplitl [S0 S1 S2 S3 Hg]
    · iexists _, _, _, _; isplitr; swap
      · isplitl [S0]; · iexact S0
        isplitl [S1]; · iexact S1
        isplitl [S2]; · iexact S2
        isplitl [S3]; · iexact S3
        iexact Hg
      ipureintro; exact good_late_at t (by omega) hG
    isplitl [HO]; · iexact HO
    isplitl [H0]; · iexact H0
    isplitl [H1]; · iexact H1
    isplitl [H2]; · iexact H2
    isplitl [H3]
    · iexists _; isplitr; swap; · iexact H3
      ipureintro; exact fun _ => out_late_at MG t (by omega) hG
    isplitl [H4]
    · iexists _; isplitr; swap; · iexact H4
      ipureintro; exact hxq (by omega)
    isplitl [H5]
    · iexists _; isplitr; swap; · iexact H5
      ipureintro; exact fun y hy => hxs y (by omega)
    isplitl [H6]
    · iexists _; isplitr; swap; · iexact H6
      ipureintro; exact fun _ => blockDy_blk _ _
    iexists _; isplitr; swap; · iexact H7
    ipureintro; exact dys_late_at t (by omega) hdys

end body

/-! ## What a step finds -/

theorem found_in (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y Z, (rdat m c).after w t Y Z → Z = Y) (t : Fin cfg0.N) (Y) (h : (rdat m c).Finds w t Y) : ∃ d, Y = (rdat m c).fetched w t d :=
  (rdat m c).finds_in_eq_fetched w hw hclip hkeep t Y h

theorem found0 (c : Dev nD) (t : Fin cfg0.N) (Y) (h : (rdat m c).Finds 0 t Y) : Y = xBlk (xArr m c) (min t.val 14) := by
  obtain ⟨d, hd⟩ := found_in m c 0 rfl (fun _ _ _ => rfl) (fun _ _ _ h => h) t Y h
  exact hd.trans ((by rfl : (rdat m c).fetched 0 t d = ((cfg0.win 0).blk t).view.read (Elt Ideal) (xArr m c)).trans (read0 (xArr m c) t))

theorem found1 (c : Dev nD) (t : Fin cfg0.N) (Y) (h : (rdat m c).Finds 1 t Y) : Y = dyBlk (dyArr m c) (min (t.val - 15) 21) := by
  obtain ⟨d, hd⟩ := found_in m c 1 rfl (fun _ _ _ => rfl) (fun _ _ _ h => h) t Y h
  exact hd.trans ((by rfl : (rdat m c).fetched 1 t d = ((cfg0.win 1).blk t).view.read (Elt Ideal) (dyArr m c)).trans (read1 (dyArr m c) t))

theorem found2 (c : Dev nD) (t : Fin cfg0.N) (Y) (h : (rdat m c).Finds 2 t Y) : Y = blkRows (mgArr m c) (min (t.val - 16) 21) := by
  obtain ⟨d, hd⟩ := found_in m c 2 rfl (fun _ _ _ => rfl) (fun _ _ _ h => h) t Y h
  exact hd.trans ((by rfl : (rdat m c).fetched 2 t d = ((cfg0.win 2).blk t).view.read (Elt Ideal) (mgArr m c)).trans (read2 (mgArr m c) t))

/-- The step before a step. -/
abbrev prev (t : Fin cfg0.N) : Fin cfg0.N := ⟨t.val - 1, Nat.lt_of_le_of_lt (Nat.sub_le _ _) t.isLt⟩

theorem found4 (c : Dev nD) (t : Fin cfg0.N) (Y) (h : (rdat m c).Finds 4 t Y) (ht : 15 ≤ t.val) : After4 (xArr m c) t.val Y := by
  rcases ((rdat m c).finds_of_pos (w := 4) (t := t) (fetch4 t) (by omega) Y).mp h with hf | ⟨Y', -, hR⟩
  · have := (flush4 (prev t)).mp hf
    have hlt : t.val < 38 := t.isLt
    exact absurd this (by show ¬ (t.val - 1 < 14 ∨ t.val - 1 = 37); omega)
  · have e : Y = xBlk (xCodes (xArr m c)) (min (t.val - 1) 14) := hR
    rw [show min (t.val - 1) 14 = min t.val 14 by omega] at e
    exact e

theorem found5 (c : Dev nD) (t : Fin cfg0.N) (Y) (h : (rdat m c).Finds 5 t Y) :
    ∀ y : S1x3840.Idx, (y 1).val < 256 * min t.val 15 → (Y : S1x3840.Idx → EReal) y = xScales (xArr m c) y := by
  intro y hy
  have ht : t.val ≠ 0 := by omega
  rcases ((rdat m c).finds_of_pos (w := 5) (t := t) (fetch5 t) ht Y).mp h with hf | ⟨Y', -, hR⟩
  · have := (flush5 (prev t)).mp hf
    have hlt : t.val < 38 := t.isLt
    exact absurd this (by show ¬ (t.val - 1 = 37); omega)
  · exact (hR : After5 (xArr m c) (t.val - 1) Y) y (by show (y 1).val < 256 * min (t.val - 1 + 1) 15; omega)

theorem found7 (c : Dev nD) (t : Fin cfg0.N) (Y) (h : (rdat m c).Finds 7 t Y) :
    ∀ y : S1x5632.Idx, (y 1).val < 256 * min (t.val - 15) 22 → (Y : S1x5632.Idx → EReal) y = dyScales (dyArr m c) y := by
  intro y hy
  have ht : t.val ≠ 0 := by omega
  rcases ((rdat m c).finds_of_pos (w := 7) (t := t) (fetch7 t) ht Y).mp h with hf | ⟨Y', -, hR⟩
  · have := (flush7 (prev t)).mp hf
    have hlt : t.val < 38 := t.isLt
    exact absurd this (by show ¬ (t.val - 1 = 37); omega)
  · exact (hR : After7 (dyArr m c) (t.val - 1) Y) y (by show (y 1).val < 256 * min (t.val - 1 + 1 - 15) 22; omega)

/-- The library's body obligation. -/
theorem body_obligation (c : Dev nD) : (rdat m c).BodyObligation (defs₀ (F := Ideal)) Variants.none () Set.univ := fun t Y hY => by
  rw [bigSep_W0, bigSep_W0, defs₀_row]
  refine triple_restated (sound_body (xArr m c) (dyArr m c) (mgArr m c) ((rdat m c).owesAt () t.castSucc) (Y 0) (Y 1) (Y 2) (Y 3) (Y 4) (Y 5) (Y 6) (Y 7) c t
    (found0 m c t _ (hY 0)) (found1 m c t _ (hY 1)) (found2 m c t _ (hY 2)) (found4 m c t _ (hY 4)) (found5 m c t _ (hY 5)) (found7 m c t _ (hY 7))) rfl .rfl fun _ => ?_
  unfold bodyPost
  rw [show (rdat m c).Φ t.succ = scratchAt (xArr m c) (dyArr m c) c (t.val + 1) from rfl]
  iintro ⟨HP, HO, H0, H1, H2, H3, H4, H5, H6, H7⟩
  isplitl [HP]; · iexact HP
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · icases H3 with ⟨%d, %hd, H3⟩; iexists d; isplitr; swap; · iexact H3
    ipureintro; exact hd
  isplitl [H4]
  · icases H4 with ⟨%d, %hd, H4⟩; iexists d; isplitr; swap; · iexact H4
    ipureintro; exact hd
  isplitl [H5]
  · icases H5 with ⟨%d, %hd, H5⟩; iexists d; isplitr; swap; · iexact H5
    ipureintro; exact hd
  isplitl [H6]
  · icases H6 with ⟨%d, %hd, H6⟩; iexists d; isplitr; swap; · iexact H6
    ipureintro; exact hd
  icases H7 with ⟨%d, %hd, H7⟩; iexists d; isplitr; swap; · iexact H7
  ipureintro; exact hd

/-! ## The launch -/

/-- Before the first step the scratch holds anything. -/
theorem enter (c : Dev nD) : (Pipeline.ΦA spec0 c : sProp 𝕄) ⊢ (rdat m c).Φ 0 := by
  rw [show (rdat m c).Φ 0 = scratchAt (xArr m c) (dyArr m c) c 0 from rfl, PhiA_eq]
  unfold scratchAt
  iintro ⟨⟨⟨%e0, S0⟩, ⟨%e1, S1⟩, ⟨%e2, S2⟩, ⟨%e3, S3⟩⟩, Hg⟩
  iexists e0, e1, e2, e3
  isplitr; swap
  · isplitl [S0]; · iexact S0
    isplitl [S1]; · iexact S1
    isplitl [S2]; · iexact S2
    isplitl [S3]; · iexact S3
    iexact Hg
  ipureintro; exact good_zero _ _ _ _ _ _

/-- After the last step what the scratch holds is forgotten. -/
theorem leave (c : Dev nD) : (rdat m c).Φ (Fin.last cfg0.N) ⊢ (Pipeline.ΦA spec0 c : sProp 𝕄) := by
  rw [show (rdat m c).Φ (Fin.last cfg0.N) = scratchAt (xArr m c) (dyArr m c) c cfg0.N from rfl, PhiA_eq]
  unfold scratchAt
  iintro ⟨%e0, %e1, %e2, %e3, %hG, S0, S1, S2, S3, Hg⟩
  isplitl [S0 S1 S2 S3]
  · isplitl [S0]; · iexists _; iexact S0
    isplitl [S1]; · iexists _; iexact S1
    isplitl [S2]; · iexists _; iexact S2
    iexists _; iexact S3
  iexact Hg

set_option backward.isDefEq.respectTransparency.types false in
/-- Every execution terminates, with the outputs as the proof data say. -/
theorem run_main :
    θ_run defs (onTc (τ := τ) (main (F := Ideal))) (s₀ m ρ)
      (fun r => RDat.FramePost (cfgs 0) (fun c => rdat m c) (V m) r ∧ r.2.sem = fun _ => 0) :=
  RDat.θ_run_frame_track (Q' := _) cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := fun _ _ => rfl) (hin := fun c => enter m c) (hout := fun c => leave m c)

end Cert.KernelIdeal.Track

end
-- ==== Proof.Results.lean ====
module

public import proofs.«01_k».proof.Proof.Track
public import Idealize.ShloMosaic.Lib.Pipeline.ArrRel

/-! # The kernel's results over the reals

Every block written back is a block of the expected array, and the blocks cover the arrays: so the five
results end as the expected functions of the kernel's three arrays. -/

@[expose] public section

set_option maxRecDepth 16384

noncomputable section

namespace Cert.KernelIdeal.Track

open Cert.KernelIdeal Cert.KernelIdeal.Gen Cert.KernelIdeal.Quant Cert.KernelIdeal.Run
open Idealize.ShloMosaic Idealize.ShloMosaic.TcCoe
open Idealize.SL Idealize.SL.RA Idealize.SL.Sem
open Idealize.ShloMosaic.Pipeline (RDat Dat)

variable (m : (ℓ : Loc nD τ sig) → Buf (Elt Ideal) ℓ) (ρ : Dev nD → PrngReg)

/-- What the body may leave in the outputs' buffers wherever they are written back. -/
def Left (c : Dev nD) (after : (w : Fin cfg0.W) → Fin cfg0.N → (cfg0.win w).block.Idx → Elt Ideal (cfg0.win w).elt) : Prop :=
  ∀ (w : Fin cfg0.W) (u : Fin cfg0.N), (cfg0.win w).flush u = true → (rdat m c).Leaves w u (after w u)

variable {m}
variable {c : Dev nD} {after : (w : Fin cfg0.W) → Fin cfg0.N → (cfg0.win w).block.Idx → Elt Ideal (cfg0.win w).elt}

theorem final3 (h : Left m c after) : ((rdat m c).withAfter after).arrAt 3 cfg0.N = outs (xArr m c) (dyArr m c) (mgArr m c) := by
  refine Dat.arrAt_eq_of_covers ((rdat m c).withAfter after) 3 _ covers3 fun t ht y => ?_
  obtain ⟨Y, -, hR⟩ := h 3 t ht
  have e : after 3 t = blkRows (outs (xArr m c) (dyArr m c) (mgArr m c)) (min (t.val - 16) 21) := (hR : After3 _ _ _ _ _) (flush3 t ht)
  exact (congrFun e y).trans (congrFun (read3 (outs (xArr m c) (dyArr m c) (mgArr m c)) t).symm y)

theorem final4 (h : Left m c after) : ((rdat m c).withAfter after).arrAt 4 cfg0.N = xCodes (xArr m c) := by
  refine Dat.arrAt_eq_of_covers ((rdat m c).withAfter after) 4 _ covers4 fun t ht y => ?_
  obtain ⟨Y, -, hR⟩ := h 4 t ht
  have e : after 4 t = xBlk (xCodes (xArr m c)) (min t.val 14) := (hR : After4 _ _ _)
  exact (congrFun e y).trans (congrFun (read4 (xCodes (xArr m c)) t).symm y)

theorem final5 (h : Left m c after) : ((rdat m c).withAfter after).arrAt 5 cfg0.N = xScales (xArr m c) := by
  refine Dat.arrAt_eq_of_covers ((rdat m c).withAfter after) 5 _ covers5 fun t ht y => ?_
  obtain ⟨Y, -, hR⟩ := h 5 t ht
  have ht' := (flush5 t).mp ht
  have e : ∀ y : S1x3840.Idx, (after 5 t : S1x3840.Idx → EReal) y = xScales (xArr m c) y := fun y => by
    have hy : (y 1).val < 3840 := (y 1).isLt
    exact (hR : After5 _ _ _) y (by omega)
  exact (e y).trans (congrFun (read5 (xScales (xArr m c)) t).symm y)

theorem final6 (h : Left m c after) : ((rdat m c).withAfter after).arrAt 6 cfg0.N = dyCodes (dyArr m c) := by
  refine Dat.arrAt_eq_of_covers ((rdat m c).withAfter after) 6 _ covers6 fun t ht y => ?_
  obtain ⟨Y, -, hR⟩ := h 6 t ht
  have e : after 6 t = dyBlk (dyCodes (dyArr m c)) (min (t.val - 15) 21) := (hR : After6 _ _ _) (flush6 t ht)
  exact (congrFun e y).trans (congrFun (read6 (dyCodes (dyArr m c)) t).symm y)

theorem final7 (h : Left m c after) : ((rdat m c).withAfter after).arrAt 7 cfg0.N = dyScales (dyArr m c) := by
  refine Dat.arrAt_eq_of_covers ((rdat m c).withAfter after) 7 _ covers7 fun t ht y => ?_
  obtain ⟨Y, -, hR⟩ := h 7 t ht
  have ht' := (flush7 t).mp ht
  have e : ∀ y : S1x5632.Idx, (after 7 t : S1x5632.Idx → EReal) y = dyScales (dyArr m c) y := fun y => by
    have hy : (y 1).val < 5632 := (y 1).isLt
    exact (hR : After7 _ _ _) y (by omega)
  exact (e y).trans (congrFun (read7 (dyScales (dyArr m c)) t).symm y)

variable (m)

/-- The arguments as the claims name them. -/
def xArg (c : Dev nD) : S3072x3840.Idx → EReal := shapeCast S3072x3840 (m ((c.tc : Thread nD τ).loc main_arg0)) shapeCasts_S3x1024x3840_S3072x3840
@[inherit_doc xArg] def dyArg (c : Dev nD) : S3072x5632.Idx → EReal := shapeCast S3072x5632 (m ((c.tc : Thread nD τ).loc main_arg1)) shapeCasts_S3x1024x5632_S3072x5632
@[inherit_doc xArg] def mgArg (c : Dev nD) : S5632x3840.Idx → EReal := m ((c.tc : Thread nD τ).loc main_arg2)

theorem xArr_eq (c : Dev nD) : xArr m c = xArg m c := by rfl
theorem dyArr_eq (c : Dev nD) : dyArr m c = dyArg m c := by rfl
theorem mgArr_eq (c : Dev nD) : mgArr m c = mgArg m c := V_main_arg2 m c

/-- The kernel's results: the gradient, the codes and the scales of `x`, the codes and the scales of `dy`. -/
theorem run_values :
    θ_run defs (onTc (τ := τ) (main (F := Ideal))) ⟨m, fun _ => 0, ρ⟩ (fun r => ∀ c : Dev nD,
      r.2.mem ((c.tc : Thread nD τ).loc main_v2_0) = outs (xArg m c) (dyArg m c) (mgArg m c)
      ∧ r.2.mem ((c.tc : Thread nD τ).loc main_v2_1) = xCodes (xArg m c)
      ∧ r.2.mem ((c.tc : Thread nD τ).loc main_v2_2) = xScales (xArg m c)
      ∧ r.2.mem ((c.tc : Thread nD τ).loc main_v2_3) = dyCodes (dyArg m c)
      ∧ r.2.mem ((c.tc : Thread nD τ).loc main_v2_4) = dyScales (dyArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨after, hL, hA⟩ := h.1.exists_exact c
    rw [← xArr_eq, ← dyArr_eq, ← mgArr_eq]
    exact ⟨(hA 3).trans (final3 hL), (hA 4).trans (final4 hL), (hA 5).trans (final5 hL), (hA 6).trans (final6 hL), (hA 7).trans (final7 hL),
       ((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       (h.1.arr_in c 2 rfl).trans (V_main_arg2 m c)⟩) (run_main m ρ)

end Cert.KernelIdeal.Track

end
-- ==== Proof.Reference.lean ====
module

public import proofs.«01_k».proof.Proof.Channels
public import proofs.«01_k».proof.Proof.Gen.ReferenceIdeal.Frame
public import Idealize.ShloMosaic.Lib.Pipeline.Value
public import Idealize.ShloMosaic.Lib.Pipeline.ValueKit

/-! # The reference's results over the reals

The reference works on whole arrays, so each of its results is one function of its arguments: the
scales and their inverses come from the floor of a logarithm, the codes are the clipped products, and
the gradient is the main gradient plus the scaled product of the codes. -/

@[expose] public section

set_option maxRecDepth 16384

noncomputable section

namespace Cert.ReferenceIdeal.Read

open Cert.ReferenceIdeal Cert.ReferenceIdeal.Gen Cert.Scale
open Cert.KernelIdeal.Quant (colMax chan reduced_eq)
open Idealize.ShloMosaic Idealize.ShloMosaic.TcCoe
open Idealize.ShloMosaic.ValueIdx (contrEquiv1 contrEquiv1_symm_val)
open Idealize.SL.Sem
open Idealize.ShloMosaic.Pipeline (Dat)

/-! ## What the reference computes -/

/-- The scales of an array, a row. -/
def scales {C : ℕ} (k : BitVec 32) (X : (⟨2, ![3072, C]⟩ : Shape).Idx → EReal) : (⟨2, ![1, C]⟩ : Shape).Idx → EReal :=
  fun y => rScale (chan k X (y 1))

/-- The codes of an array, given the greatest code. -/
def codes {C : ℕ} (k : BitVec 32) (lo hi : EReal) (X : (⟨2, ![3072, C]⟩ : Shape).Idx → EReal) : (⟨2, ![3072, C]⟩ : Shape).Idx → EReal :=
  fun y => min hi (max lo (X y * rInv (chan k X (y 1))))

/-- The codes of `x`. -/
abbrev xCodes (X : S3072x3840.Idx → EReal) : S3072x3840.Idx → EReal :=
  codes 0x3B124925#32 (Ideal.ofBits .f32 0xC3E00000#32) (Ideal.ofBits .f32 0x43E00000#32) X
/-- The codes of `dy`. -/
abbrev dyCodes (X : S3072x5632.Idx → EReal) : S3072x5632.Idx → EReal :=
  codes 0x37924925#32 (Ideal.ofBits .f32 0xC7600000#32) (Ideal.ofBits .f32 0x47600000#32) X
/-- The scales of `x`. -/
abbrev xScales (X : S3072x3840.Idx → EReal) : S1x3840.Idx → EReal := scales 0x3B124925#32 X
/-- The scales of `dy`. -/
abbrev dyScales (X : S3072x5632.Idx → EReal) : S1x5632.Idx → EReal := scales 0x37924925#32 X

/-- The gradient. -/
def outs (X : S3072x3840.Idx → EReal) (DY : S3072x5632.Idx → EReal) (MG : S5632x3840.Idx → EReal) : S5632x3840.Idx → EReal :=
  fun y => MG y + (∑ k : Fin 3072, dyCodes DY (ValueIdx.ix2 k (y 0)) * xCodes X (ValueIdx.ix2 k (y 1)))
    * dyScales DY (ValueIdx.ix2 (0 : Fin 1) (y 0)) * xScales X (ValueIdx.ix2 (0 : Fin 1) (y 1))

/-! ## The reference's vectors -/

/-- A row of the greatest magnitudes. -/
theorem row_apply {C : ℕ} (X : FVec Ideal (⟨2, ![3072, C]⟩ : Shape) .f32) (hr : (⟨2, ![3072, C]⟩ : Shape).Reduces [0] (⟨1, ![C]⟩ : Shape))
    (hφ : FKind.Formats .f32) (hacc : (0xFF800000#32 : BitVec 32) = FKind.maximumf.neutral .f32 hφ)
    (hs : (⟨1, ![C]⟩ : Shape).ShapeCasts (⟨2, ![1, C]⟩ : Shape)) (y : (⟨2, ![1, C]⟩ : Shape).Idx) :
    (shapeCast (⟨2, ![1, C]⟩ : Shape) (multiReduction .maximumf [0] (⟨1, ![C]⟩ : Shape) (absf X) 0xFF800000#32 hr hφ hacc) hs y : EReal)
      = colMax X (y 1) := by
  refine (shapeCast_addUnit_apply ![C] _ hs y).trans ?_
  exact reduced_eq (absf X) hr hφ hacc _

/-- The ratios of the channels, a row, from the values. -/
def ratioVec {C : ℕ} (k : BitVec 32) (hr : (⟨2, ![3072, C]⟩ : Shape).Reduces [0] (⟨1, ![C]⟩ : Shape))
    (hs : (⟨1, ![C]⟩ : Shape).ShapeCasts (⟨2, ![1, C]⟩ : Shape)) (X : FVec Ideal (⟨2, ![3072, C]⟩ : Shape) .f32) : FVec Ideal (⟨2, ![1, C]⟩ : Shape) .f32 :=
  mulf (shapeCast (⟨2, ![1, C]⟩ : Shape) (multiReduction .maximumf [0] (⟨1, ![C]⟩ : Shape) (absf X) 0xFF800000#32 hr (.inl rfl) rfl) hs)
    (broadcast (⟨2, ![1, C]⟩ : Shape) (Scalar.ofBits .f32 k))

/-- The exponents of the channels, from the ratios. -/
def expVec {C : ℕ} (w : FVec Ideal (⟨2, ![1, C]⟩ : Shape) .f32) : FVec Ideal (⟨2, ![1, C]⟩ : Shape) .f32 :=
  select (andi (cmpf .oge w (broadcast (⟨2, ![1, C]⟩ : Shape) (Scalar.ofBits .f32 0x00800000#32)))
      (cmpf .olt w (broadcast (⟨2, ![1, C]⟩ : Shape) (Scalar.ofBits .f32 0x7F800000#32))))
    (addf (floor (divf (log w) (log (broadcast (⟨2, ![1, C]⟩ : Shape) (Scalar.ofBits .f32 0x40000000#32)))))
      (broadcast (⟨2, ![1, C]⟩ : Shape) (Scalar.ofBits .f32 0x3F800000#32)))
    (broadcast (⟨2, ![1, C]⟩ : Shape) (Scalar.ofBits .f32 0x00000000#32))

/-- The clipped products, from the values and the exponents. -/
def codesVec {C : ℕ} (lo hi : BitVec 32) (hb : (⟨2, ![1, C]⟩ : Shape).Broadcasts (⟨2, ![3072, C]⟩ : Shape))
    (X : FVec Ideal (⟨2, ![3072, C]⟩ : Shape) .f32) (w : FVec Ideal (⟨2, ![1, C]⟩ : Shape) .f32) : FVec Ideal (⟨2, ![3072, C]⟩ : Shape) .f32 :=
  minimumf (broadcast (⟨2, ![3072, C]⟩ : Shape) (Scalar.ofBits .f32 hi)) (maximumf (broadcast (⟨2, ![3072, C]⟩ : Shape) (Scalar.ofBits .f32 lo))
    (mulf X (broadcastTo (⟨2, ![3072, C]⟩ : Shape) (exp2 (subf (broadcast (⟨2, ![1, C]⟩ : Shape) (Scalar.ofBits .f32 0x00000000#32)) w)) hb)))

theorem mulf_const {s : Shape} (w : FVec Ideal s .f32) (k : BitVec 32) (y : s.Idx) :
    (mulf w (broadcast s (Scalar.ofBits (F := Ideal) .f32 k)) y : EReal) = (w y : EReal) * Ideal.ofBits .f32 k := rfl

theorem exp2_apply {s : Shape} (w : FVec Ideal s .f32) (y : s.Idx) : (exp2 w y : EReal) = Ideal.exp2 (w y) := rfl

theorem expVec_apply {C : ℕ} (w : FVec Ideal (⟨2, ![1, C]⟩ : Shape) .f32) (y : (⟨2, ![1, C]⟩ : Shape).Idx) : (expVec w y : EReal) = rExp (w y) := rfl

theorem ratioVec_apply {C : ℕ} (k : BitVec 32) (hr : (⟨2, ![3072, C]⟩ : Shape).Reduces [0] (⟨1, ![C]⟩ : Shape))
    (hs : (⟨1, ![C]⟩ : Shape).ShapeCasts (⟨2, ![1, C]⟩ : Shape)) (X : FVec Ideal (⟨2, ![3072, C]⟩ : Shape) .f32) (y : (⟨2, ![1, C]⟩ : Shape).Idx) :
    (ratioVec k hr hs X y : EReal) = chan k X (y 1) :=
  (mulf_const _ k y).trans (congrArg (fun z : EReal => z * Ideal.ofBits .f32 k) (row_apply X hr (.inl rfl) rfl hs y))

theorem codesVec_apply {C : ℕ} (lo hi : BitVec 32) (hb : (⟨2, ![1, C]⟩ : Shape).Broadcasts (⟨2, ![3072, C]⟩ : Shape))
    (X : FVec Ideal (⟨2, ![3072, C]⟩ : Shape) .f32) (w : FVec Ideal (⟨2, ![1, C]⟩ : Shape) .f32) (y : (⟨2, ![3072, C]⟩ : Shape).Idx) :
    (codesVec lo hi hb X w y : EReal) = min (Ideal.ofBits .f32 hi) (max (Ideal.ofBits .f32 lo)
      (X y * Ideal.exp2 (Ideal.ofBits .f32 0x00000000#32 - w (ValueIdx.ix2 (0 : Fin 1) (y 1))))) := by
  have eb : ∀ u : FVec Ideal (⟨2, ![1, C]⟩ : Shape) .f32, broadcastTo (⟨2, ![3072, C]⟩ : Shape) u hb y = u (ValueIdx.ix2 (0 : Fin 1) (y 1)) := fun u => by
    refine broadcastTo_apply u hb y _ fun a => ?_
    match a with
    | ⟨0, _⟩ => rfl
    | ⟨1, _⟩ =>
      have h1 : (y 1).val < C := (y 1).isLt
      show (y 1).val = if C = 1 then 0 else (y 1).val
      split_ifs <;> omega
  exact congrArg (fun z : EReal => min (Ideal.ofBits .f32 hi) (max (Ideal.ofBits .f32 lo) (X y * z))) (eb _)

/-- The scales, from the ratios of the values. -/
theorem scales_eq {C : ℕ} (k : BitVec 32) (hr : (⟨2, ![3072, C]⟩ : Shape).Reduces [0] (⟨1, ![C]⟩ : Shape))
    (hs : (⟨1, ![C]⟩ : Shape).ShapeCasts (⟨2, ![1, C]⟩ : Shape)) (X : FVec Ideal (⟨2, ![3072, C]⟩ : Shape) .f32) :
    exp2 (expVec (ratioVec k hr hs X)) = scales k X :=
  funext fun y => (exp2_apply (expVec (ratioVec k hr hs X)) y).trans
    (congrArg Ideal.exp2 ((expVec_apply (ratioVec k hr hs X) y).trans (congrArg rExp (ratioVec_apply k hr hs X y))))

/-- The codes, from the values and their ratios. -/
theorem codes_eq {C : ℕ} (k lo hi : BitVec 32) (hr : (⟨2, ![3072, C]⟩ : Shape).Reduces [0] (⟨1, ![C]⟩ : Shape))
    (hs : (⟨1, ![C]⟩ : Shape).ShapeCasts (⟨2, ![1, C]⟩ : Shape)) (hb : (⟨2, ![1, C]⟩ : Shape).Broadcasts (⟨2, ![3072, C]⟩ : Shape))
    (X : FVec Ideal (⟨2, ![3072, C]⟩ : Shape) .f32) :
    codesVec lo hi hb X (expVec (ratioVec k hr hs X)) = codes k (Ideal.ofBits .f32 lo) (Ideal.ofBits .f32 hi) X :=
  funext fun y => (codesVec_apply lo hi hb X (expVec (ratioVec k hr hs X)) y).trans
    (congrArg (fun z : EReal => min (Ideal.ofBits .f32 hi) (max (Ideal.ofBits .f32 lo) (X y * Ideal.exp2 (Ideal.ofBits .f32 0x00000000#32 - z))))
      ((expVec_apply (ratioVec k hr hs X) _).trans (congrArg rExp (ratioVec_apply k hr hs X _))))

/-! ## The reference's payloads -/

theorem pay1_eq (v : Vec Ideal S3072x3840 .bf16) : k0_pay1 (F := Ideal) v = v := by
  unfold k0_pay1; rw [shapeCast_self]; rfl
theorem pay5_eq (v : Vec Ideal S3072x5632 .bf16) : k0_pay5 (F := Ideal) v = v := by
  unfold k0_pay5; rw [shapeCast_self]; rfl

theorem pay2_def (v : Vec Ideal S3072x3840 .bf16) :
    k0_pay2 (F := Ideal) v = expVec (ratioVec 0x3B124925#32 reduces_S3072x3840_S3840 shapeCasts_S3840_S1x3840 (k0_pay1 v)) := rfl
theorem pay3_def (v : Vec Ideal S3072x3840 .bf16) : k0_pay3 (F := Ideal) v = exp2 (k0_pay2 v) := rfl
theorem pay4_def (v : Vec Ideal S3072x3840 .bf16) : k0_pay4 (F := Ideal) v =
    truncf .fp8e4m3 (codesVec 0xC3E00000#32 0x43E00000#32 broadcasts_S1x3840_S3072x3840 (k0_pay1 v) (k0_pay2 v)) bitsLt_fp8e4m3_f32 := rfl
theorem pay6_def (v : Vec Ideal S3072x5632 .bf16) :
    k0_pay6 (F := Ideal) v = ratioVec 0x37924925#32 reduces_S3072x5632_S5632 shapeCasts_S5632_S1x5632 (k0_pay5 v) := rfl
theorem pay7_def (v : Vec Ideal S3072x5632 .bf16) : k0_pay7 (F := Ideal) v = log (k0_pay6 v) := rfl
theorem pay9_def (w : FVec Ideal S1x5632 .f32) : k0_pay9 (F := Ideal) w (log w) k0_pay8 = expVec w := rfl
theorem pay10_def (a b d : FVec Ideal S1x5632 .f32) : k0_pay10 (F := Ideal) a b d = exp2 (k0_pay9 a b d) := rfl
theorem pay11_def (v : FVec Ideal S3072x5632 .f32) (a b d : FVec Ideal S1x5632 .f32) : k0_pay11 (F := Ideal) v a b d =
    truncf .fp8e5m2 (codesVec 0xC7600000#32 0x47600000#32 broadcasts_S1x5632_S3072x5632 v (k0_pay9 a b d)) bitsLt_fp8e5m2_f32 := rfl

/-- A rounding to a narrower format changes nothing over the reals. -/
theorem truncf_eq {s : Shape} {φ ψ : FTy} (h : FTy.bits ψ < FTy.bits φ) (w : FVec Ideal s φ) : (truncf ψ w h : s.Idx → EReal) = w := rfl

theorem pay3_eq (v : Vec Ideal S3072x3840 .bf16) : k0_pay3 (F := Ideal) v = xScales v := by
  rw [pay3_def, pay2_def, scales_eq, pay1_eq]

theorem pay4_eq (v : Vec Ideal S3072x3840 .bf16) : k0_pay4 (F := Ideal) v = xCodes v := by
  rw [pay4_def, pay2_def, codes_eq, pay1_eq]; exact truncf_eq _ _

theorem pay10_eq (v : Vec Ideal S3072x5632 .bf16) : k0_pay10 (F := Ideal) (k0_pay6 v) (k0_pay7 v) k0_pay8 = dyScales v := by
  rw [pay10_def, pay7_def, pay9_def, pay6_def, scales_eq, pay5_eq]

theorem pay11_eq (v : Vec Ideal S3072x5632 .bf16) :
    k0_pay11 (F := Ideal) (k0_pay5 v) (k0_pay6 v) (k0_pay7 v) k0_pay8 = dyCodes v := by
  rw [pay11_def, pay7_def, pay9_def, pay6_def, codes_eq, pay5_eq]; exact truncf_eq _ _

/-! ## The product -/

/-- The product of two arrays over their rows. -/
def rowDims {K M N : ℕ} (wf : DotDims.WF (⟨2, ![K, M]⟩ : Shape) (⟨2, ![K, N]⟩ : Shape) (⟨2, ![M, N]⟩ : Shape) [0] [0] [1] [1] [] []) :
    DotDims (⟨2, ![K, M]⟩ : Shape) (⟨2, ![K, N]⟩ : Shape) (⟨2, ![M, N]⟩ : Shape) := ⟨[0], [0], [1], [1], [], [], wf⟩

theorem product_apply {K M N : ℕ} (wf : DotDims.WF (⟨2, ![K, M]⟩ : Shape) (⟨2, ![K, N]⟩ : Shape) (⟨2, ![M, N]⟩ : Shape) [0] [0] [1] [1] [] [])
    {φ₁ φ₂ : FTy} (A : FVec Ideal (⟨2, ![K, M]⟩ : Shape) φ₁) (B : FVec Ideal (⟨2, ![K, N]⟩ : Shape) φ₂) (r : Fin M) (q : Fin N) :
    (FloatOps.matmul (rowDims wf) none A B (constant (F := Ideal) (⟨2, ![M, N]⟩ : Shape) .f32 0x00000000#32) (ValueIdx.ix2 r q) : EReal)
      = ∑ k : Fin K, (A (ValueIdx.ix2 k r) : EReal) * B (ValueIdx.ix2 k q) := by
  rw [Ideal.matmul_apply, ← Equiv.sum_comp (contrEquiv1 (rowDims wf) K rfl rfl).symm,
    show (constant (F := Ideal) (⟨2, ![M, N]⟩ : Shape) .f32 0x00000000#32) (ValueIdx.ix2 r q) = (0 : EReal) from Ideal.ofBits_zero_f32, zero_add]
  refine Finset.sum_congr rfl fun k _ => ?_
  have hk := contrEquiv1_symm_val (rowDims wf) K rfl rfl k
  refine congrArg₂ (fun p q : EReal => p * q) (congrArg A (funext fun a => Fin.ext ?_)) (congrArg B (funext fun a => Fin.ext ?_))
  · match a with
    | ⟨0, _⟩ => exact hk
    | ⟨1, _⟩ => rfl
  · match a with
    | ⟨0, _⟩ => exact hk
    | ⟨1, _⟩ => rfl

/-- The gradient's vector, from the scales and the codes. -/
theorem grad_apply (P : FVec Ideal S5632x3840 .f32) (D : FVec Ideal S1x5632 .f32) (S : FVec Ideal S1x3840 .f32) (M : FVec Ideal S5632x3840 .f32) (y : S5632x3840.Idx) :
    (addf M (mulf (mulf P (broadcastTo S5632x3840 (transpose S5632x1 [1, 0] D transposes_S1x5632_p1_0_S5632x1) broadcasts_S5632x1_S5632x3840))
        (broadcastTo S5632x3840 S broadcasts_S1x3840_S5632x3840)) y : EReal)
      = (M y : EReal) + (P y : EReal) * D (ValueIdx.ix2 (0 : Fin 1) (y 0)) * S (ValueIdx.ix2 (0 : Fin 1) (y 1)) := by
  have eD : (broadcastTo S5632x3840 (transpose S5632x1 [1, 0] D transposes_S1x5632_p1_0_S5632x1) broadcasts_S5632x1_S5632x3840 y : EReal)
      = D (ValueIdx.ix2 (0 : Fin 1) (y 0)) := by
    refine (broadcastTo_apply _ _ y (ValueIdx.ix2 (y 0) (0 : Fin 1)) fun a => ?_).trans ?_
    · match a with
      | ⟨0, _⟩ => rfl
      | ⟨1, _⟩ => rfl
    · refine transpose_apply _ _ _ _ _ fun a => ?_
      match a with
      | ⟨0, _⟩ => rfl
      | ⟨1, _⟩ => rfl
  have eX : (broadcastTo S5632x3840 S broadcasts_S1x3840_S5632x3840 y : EReal) = S (ValueIdx.ix2 (0 : Fin 1) (y 1)) := by
    refine broadcastTo_apply _ _ y _ fun a => ?_
    match a with
    | ⟨0, _⟩ => rfl
    | ⟨1, _⟩ => rfl
  exact congrArg₂ (fun p q : EReal => p + q) rfl (congrArg₂ (fun p q : EReal => p * q) (congrArg₂ (fun p q : EReal => p * q) rfl eD) eX)

theorem pay12_def (S : FVec Ideal S1x3840 .f32) (B : FVec Ideal S3072x3840 .fp8e4m3) (u : FVec Ideal S3072x5632 .f32) (a b d : FVec Ideal S1x5632 .f32)
    (g : Vec Ideal S5632x3840 .f32) :
    k0_pay12 (F := Ideal) S B u a b d g = addf g (mulf (mulf
        (FloatOps.matmul (rowDims dot_S3072x5632_S3072x3840_S5632x3840_0_0_1_1_n_n_wf) none (k0_pay11 u a b d) B (constant (F := Ideal) S5632x3840 .f32 0x00000000#32))
        (broadcastTo S5632x3840 (transpose S5632x1 [1, 0] (k0_pay10 a b d) transposes_S1x5632_p1_0_S5632x1) broadcasts_S5632x1_S5632x3840))
        (broadcastTo S5632x3840 S broadcasts_S1x3840_S5632x3840)) := rfl

/-- The gradient's vector. -/
theorem pay12_eq (v : Vec Ideal S3072x3840 .bf16) (u : Vec Ideal S3072x5632 .bf16) (g : Vec Ideal S5632x3840 .f32) :
    k0_pay12 (F := Ideal) (k0_pay3 v) (k0_pay4 v) (k0_pay5 u) (k0_pay6 u) (k0_pay7 u) k0_pay8 g = outs v u g := by
  rw [pay12_def, pay10_eq, pay11_eq, pay3_eq, pay4_eq]
  funext y
  refine (grad_apply _ (dyScales u) (xScales v) g y).trans ?_
  refine congrArg (fun z : EReal => (g y : EReal) + z * dyScales u (ValueIdx.ix2 (0 : Fin 1) (y 0)) * xScales v (ValueIdx.ix2 (0 : Fin 1) (y 1))) ?_
  exact (congrArg _ (ValueIdx.eq_ix2 y)).trans
    (product_apply dot_S3072x5632_S3072x3840_S5632x3840_0_0_1_1_n_n_wf (φ₁ := .fp8e5m2) (φ₂ := .fp8e4m3) (dyCodes u) (xCodes v) (y 0) (y 1))

end Cert.ReferenceIdeal.Read
-- ==== Proof.ReferenceRun.lean ====
module

public import proofs.«01_k».proof.Proof.Reference

/-! # The reference's run over the reals

The reference has one step and every block is a whole array, so what the step writes is what the arrays
hold at the end: the functions of the arguments that its values were shown to be. -/

@[expose] public section

set_option maxRecDepth 16384

noncomputable section

namespace Cert.ReferenceIdeal.Read

open Cert.ReferenceIdeal Cert.ReferenceIdeal.Gen
open Idealize.ShloMosaic Idealize.ShloMosaic.TcCoe
open Idealize.SL.Sem
open Idealize.ShloMosaic.Pipeline (Dat)

theorem origin : (![0, 0] : Fin 2 → Nat) = fun _ => 0 := funext fun a => by fin_cases a <;> rfl

/-! ## A block is the whole array -/

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel

theorem read0 (X : S3072x3840.Idx → EReal) (t : Fin cfg0.N) : ((cfg0.win 0).blk t).view.read (Elt Ideal) X = X := by
  funext y
  refine congrArg X (funext fun a => Fin.ext ?_)
  match a with
  | ⟨0, _⟩ => exact win0_0.rect_emb_val_of_index_zero t 0 (index0 t).1 y
  | ⟨1, _⟩ => exact win0_0.rect_emb_val_of_index_zero t 1 (index0 t).2 y

theorem read1 (X : S3072x5632.Idx → EReal) (t : Fin cfg0.N) : ((cfg0.win 1).blk t).view.read (Elt Ideal) X = X := by
  funext y
  refine congrArg X (funext fun a => Fin.ext ?_)
  match a with
  | ⟨0, _⟩ => exact win0_1.rect_emb_val_of_index_zero t 0 (index1 t).1 y
  | ⟨1, _⟩ => exact win0_1.rect_emb_val_of_index_zero t 1 (index1 t).2 y

theorem read2 (X : S5632x3840.Idx → EReal) (t : Fin cfg0.N) : ((cfg0.win 2).blk t).view.read (Elt Ideal) X = X := by
  funext y
  refine congrArg X (funext fun a => Fin.ext ?_)
  match a with
  | ⟨0, _⟩ => exact win0_2.rect_emb_val_of_index_zero t 0 (index2 t).1 y
  | ⟨1, _⟩ => exact win0_2.rect_emb_val_of_index_zero t 1 (index2 t).2 y

theorem read3 (X : S5632x3840.Idx → EReal) (t : Fin cfg0.N) : ((cfg0.win 3).blk t).view.read (Elt Ideal) X = X := by
  funext y
  refine congrArg X (funext fun a => Fin.ext ?_)
  match a with
  | ⟨0, _⟩ => exact win0_3.rect_emb_val_of_index_zero t 0 (index3 t).1 y
  | ⟨1, _⟩ => exact win0_3.rect_emb_val_of_index_zero t 1 (index3 t).2 y

theorem read4 (X : S3072x3840.Idx → EReal) (t : Fin cfg0.N) : ((cfg0.win 4).blk t).view.read (Elt Ideal) X = X := by
  funext y
  refine congrArg X (funext fun a => Fin.ext ?_)
  match a with
  | ⟨0, _⟩ => exact win0_4.rect_emb_val_of_index_zero t 0 (index4 t).1 y
  | ⟨1, _⟩ => exact win0_4.rect_emb_val_of_index_zero t 1 (index4 t).2 y

theorem read5 (X : S1x3840.Idx → EReal) (t : Fin cfg0.N) : ((cfg0.win 5).blk t).view.read (Elt Ideal) X = X := by
  funext y
  refine congrArg X (funext fun a => Fin.ext ?_)
  match a with
  | ⟨0, _⟩ => exact win0_5.rect_emb_val_of_index_zero t 0 (index5 t).1 y
  | ⟨1, _⟩ => exact win0_5.rect_emb_val_of_index_zero t 1 (index5 t).2 y

theorem read6 (X : S3072x5632.Idx → EReal) (t : Fin cfg0.N) : ((cfg0.win 6).blk t).view.read (Elt Ideal) X = X := by
  funext y
  refine congrArg X (funext fun a => Fin.ext ?_)
  match a with
  | ⟨0, _⟩ => exact win0_6.rect_emb_val_of_index_zero t 0 (index6 t).1 y
  | ⟨1, _⟩ => exact win0_6.rect_emb_val_of_index_zero t 1 (index6 t).2 y

theorem read7 (X : S1x5632.Idx → EReal) (t : Fin cfg0.N) : ((cfg0.win 7).blk t).view.read (Elt Ideal) X = X := by
  funext y
  refine congrArg X (funext fun a => Fin.ext ?_)
  match a with
  | ⟨0, _⟩ => exact win0_7.rect_emb_val_of_index_zero t 0 (index7 t).1 y
  | ⟨1, _⟩ => exact win0_7.rect_emb_val_of_index_zero t 1 (index7 t).2 y

theorem covers3 : win0_3.Covers := by decide +kernel
theorem covers4 : win0_4.Covers := by decide +kernel
theorem covers5 : win0_5.Covers := by decide +kernel
theorem covers6 : win0_6.Covers := by decide +kernel
theorem covers7 : win0_7.Covers := by decide +kernel

/-! ## What the step writes -/

theorem out3_eq (x : Vec Ideal S3072x3840 .bf16) (u : Vec Ideal S3072x5632 .bf16) (g : Vec Ideal S5632x3840 .f32) :
    out0_3 (F := Ideal) x u g = outs x u g := by
  unfold out0_3 k0_pay18 k0_pay17 k0_pay16 k0_pay15 k0_pay14 k0_pay13
  rw [View.canon_unit_zero origin, View.ld_unit_zero origin, View.ld_unit_zero origin, View.ld_unit_zero origin]
  exact pay12_eq x u g

theorem out4_eq (x : Vec Ideal S3072x3840 .bf16) (u : Vec Ideal S3072x5632 .bf16) (g : Vec Ideal S5632x3840 .f32) :
    out0_4 (F := Ideal) x u g = xCodes x := by
  unfold out0_4 k0_pay14
  rw [View.canon_unit_zero origin, View.ld_unit_zero origin]
  exact pay4_eq x

theorem out5_eq (x : Vec Ideal S3072x3840 .bf16) (u : Vec Ideal S3072x5632 .bf16) (g : Vec Ideal S5632x3840 .f32) :
    out0_5 (F := Ideal) x u g = xScales x := by
  unfold out0_5 k0_pay13
  rw [View.canon_unit_zero origin, View.ld_unit_zero origin]
  exact pay3_eq x

theorem out6_eq (x : Vec Ideal S3072x3840 .bf16) (u : Vec Ideal S3072x5632 .bf16) (g : Vec Ideal S5632x3840 .f32) :
    out0_6 (F := Ideal) x u g = dyCodes u := by
  unfold out0_6 k0_pay18 k0_pay17 k0_pay16 k0_pay15
  rw [View.canon_unit_zero origin, View.ld_unit_zero origin]
  exact pay11_eq u

theorem out7_eq (x : Vec Ideal S3072x3840 .bf16) (u : Vec Ideal S3072x5632 .bf16) (g : Vec Ideal S5632x3840 .f32) :
    out0_7 (F := Ideal) x u g = dyScales u := by
  unfold out0_7 k0_pay18 k0_pay17 k0_pay16
  rw [View.canon_unit_zero origin, View.ld_unit_zero origin]
  exact pay10_eq u

/-! ## The arrays at the end -/

variable (m : (ℓ : Loc nD τ sig) → Buf (Elt Ideal) ℓ) (ρ : Dev nD → PrngReg)

/-- The arguments as the claims name them. -/
def xArg (c : Dev nD) : S3072x3840.Idx → EReal := shapeCast S3072x3840 (m ((c.tc : Thread nD τ).loc main_arg0)) shapeCasts_S3x1024x3840_S3072x3840
@[inherit_doc xArg] def dyArg (c : Dev nD) : S3072x5632.Idx → EReal := shapeCast S3072x5632 (m ((c.tc : Thread nD τ).loc main_arg1)) shapeCasts_S3x1024x5632_S3072x5632
@[inherit_doc xArg] def mgArg (c : Dev nD) : S5632x3840.Idx → EReal := m ((c.tc : Thread nD τ).loc main_arg2)

theorem blk0 (c : Dev nD) (t : Fin cfg0.N) : iblk m c 0 t = xArg m c := read0 (xArg m c) t
theorem blk1 (c : Dev nD) (t : Fin cfg0.N) : iblk m c 1 t = dyArg m c := read1 (dyArg m c) t
theorem blk2 (c : Dev nD) (t : Fin cfg0.N) : iblk m c 2 t = mgArg m c :=
  (read2 (V m c main_arg2) t).trans (V_main_arg2 m c)

theorem final3 (c : Dev nD) : (dats m 0 c).arrAt 3 cfg0.N = outs (xArg m c) (dyArg m c) (mgArg m c) := by
  refine Dat.arrAt_eq_of_covers (dats m 0 c) 3 _ covers3 fun t _ y => ?_
  have e : (dats m 0 c).after 3 t = outs (xArg m c) (dyArg m c) (mgArg m c) :=
    (after0_3 m c t).trans (by rw [blk0, blk1, blk2]; exact out3_eq _ _ _)
  exact (congrFun e y).trans (congrFun (read3 (outs (xArg m c) (dyArg m c) (mgArg m c)) t).symm y)

theorem final4 (c : Dev nD) : (dats m 0 c).arrAt 4 cfg0.N = xCodes (xArg m c) := by
  refine Dat.arrAt_eq_of_covers (dats m 0 c) 4 _ covers4 fun t _ y => ?_
  have e : (dats m 0 c).after 4 t = xCodes (xArg m c) :=
    (after0_4 m c t).trans (by rw [blk0]; exact out4_eq _ _ _)
  exact (congrFun e y).trans (congrFun (read4 (xCodes (xArg m c)) t).symm y)

theorem final5 (c : Dev nD) : (dats m 0 c).arrAt 5 cfg0.N = xScales (xArg m c) := by
  refine Dat.arrAt_eq_of_covers (dats m 0 c) 5 _ covers5 fun t _ y => ?_
  have e : (dats m 0 c).after 5 t = xScales (xArg m c) :=
    (after0_5 m c t).trans (by rw [blk0]; exact out5_eq _ _ _)
  exact (congrFun e y).trans (congrFun (read5 (xScales (xArg m c)) t).symm y)

theorem final6 (c : Dev nD) : (dats m 0 c).arrAt 6 cfg0.N = dyCodes (dyArg m c) := by
  refine Dat.arrAt_eq_of_covers (dats m 0 c) 6 _ covers6 fun t _ y => ?_
  have e : (dats m 0 c).after 6 t = dyCodes (dyArg m c) :=
    (after0_6 m c t).trans (by rw [blk1]; exact out6_eq _ _ _)
  exact (congrFun e y).trans (congrFun (read6 (dyCodes (dyArg m c)) t).symm y)

theorem final7 (c : Dev nD) : (dats m 0 c).arrAt 7 cfg0.N = dyScales (dyArg m c) := by
  refine Dat.arrAt_eq_of_covers (dats m 0 c) 7 _ covers7 fun t _ y => ?_
  have e : (dats m 0 c).after 7 t = dyScales (dyArg m c) :=
    (after0_7 m c t).trans (by rw [blk1]; exact out7_eq _ _ _)
  exact (congrFun e y).trans (congrFun (read7 (dyScales (dyArg m c)) t).symm y)

/-- The reference's results: the gradient, the codes and the scales of `x`, the codes and the scales of `dy`. -/
theorem run_values :
    θ_run defs (onTc (τ := τ) (main (F := Ideal))) ⟨m, fun _ => 0, ρ⟩ (fun r => ∀ c : Dev nD,
      r.2.mem ((c.tc : Thread nD τ).loc main_v2_0) = outs (xArg m c) (dyArg m c) (mgArg m c)
      ∧ r.2.mem ((c.tc : Thread nD τ).loc main_v2_1) = xCodes (xArg m c)
      ∧ r.2.mem ((c.tc : Thread nD τ).loc main_v2_2) = xScales (xArg m c)
      ∧ r.2.mem ((c.tc : Thread nD τ).loc main_v2_3) = dyCodes (dyArg m c)
      ∧ r.2.mem ((c.tc : Thread nD τ).loc main_v2_4) = dyScales (dyArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 3).trans (final3 m c), ((h c).1 4).trans (final4 m c), ((h c).1 5).trans (final5 m c),
      ((h c).1 6).trans (final6 m c), ((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c)))⟩)
    (run_main m ρ)

end Cert.ReferenceIdeal.Read
-- ==== Proof.Equation.lean ====
module

public import proofs.«01_k».proof.Proof.Reference
public import proofs.«01_k».proof.Proof.State
public import proofs.«01_k».proof.Proof.Gen.Pre_bf16_values
public import Idealize.ShloMosaic.Lib.ReduceAll

/-! # The kernel's results are the reference's

For arrays whose entries are infinite or no larger than the largest finite bf16 value, every channel's
ratio is below `2 ^ 126` or infinite, so the two ways to a scale agree; the clipping bounds, written in
two formats, denote the same numbers. -/

@[expose] public section

set_option maxRecDepth 16384

noncomputable section

namespace Cert.Equation

open Idealize.ShloMosaic Idealize.ShloMosaic.TcCoe
open Cert.KernelIdeal.Quant (colMax chan)
open Cert.Scale

/-! ## Constants -/

/-- The largest finite bf16 value. -/
abbrev largest : EReal := Ideal.ofBits .f32 0x7F7F0000#32

/-- A pattern whose exponent field is neither all zeros nor all ones denotes a signed multiple of a power of two. -/
theorem ieee_normal (e m : ℕ) {w : ℕ} (b : BitVec w) (s : Bool) (E T : ℕ) (hs : (b.extractLsb' (e + m) 1 == 1#1) = s)
    (hE : (b.extractLsb' m e).toNat = E) (hT : (b.extractLsb' 0 m).toNat = T) (h1 : E ≠ 2 ^ e - 1) (h0 : E ≠ 0) (r : ℝ)
    (hr : (if s then (-1 : ℝ) else 1) * ((2 ^ m + T : ℕ) : ℝ) * (2 : ℝ) ^ ((E : ℤ) - (2 ^ (e - 1) - 1) - (m : ℤ)) = r) : Ideal.ieee e m b = (r : EReal) := by
  unfold Ideal.ieee
  simp only
  rw [hs, hE, hT, if_neg h1, if_neg h0, ← hr]

theorem largest_eq : largest = ((255 * 2 ^ (120 : ℕ) : ℝ) : EReal) :=
  ieee_normal 8 23 0x7F7F0000#32 false 254 8323072 (by decide) (by decide) (by decide) (by decide) (by decide) (255 * 2 ^ (120 : ℕ)) (by norm_num)

theorem ratio_x : Ideal.ofBits .f32 0x3B124925#32 = ((9586981 / 2 ^ (32 : ℕ) : ℝ) : EReal) :=
  ieee_normal 8 23 0x3B124925#32 false 118 1198373 (by decide) (by decide) (by decide) (by decide) (by decide) (9586981 / 2 ^ (32 : ℕ)) (by norm_num)

theorem ratio_dy : Ideal.ofBits .f32 0x37924925#32 = ((9586981 / 2 ^ (39 : ℕ) : ℝ) : EReal) :=
  ieee_normal 8 23 0x37924925#32 false 111 1198373 (by decide) (by decide) (by decide) (by decide) (by decide) (9586981 / 2 ^ (39 : ℕ)) (by norm_num)

theorem hi_x : Ideal.ofBits .bf16 0x43E0#16 = Ideal.ofBits .f32 0x43E00000#32 :=
  (ieee_normal 8 7 _ false 135 96 (by decide) (by decide) (by decide) (by decide) (by decide) 448 (by norm_num) : Ideal.ieee 8 7 0x43E0#16 = _).trans
    (ieee_normal 8 23 _ false 135 6291456 (by decide) (by decide) (by decide) (by decide) (by decide) 448 (by norm_num) : Ideal.ieee 8 23 0x43E00000#32 = _).symm
theorem lo_x : Ideal.ofBits .bf16 0xC3E0#16 = Ideal.ofBits .f32 0xC3E00000#32 :=
  (ieee_normal 8 7 _ true 135 96 (by decide) (by decide) (by decide) (by decide) (by decide) (-448) (by norm_num) : Ideal.ieee 8 7 0xC3E0#16 = _).trans
    (ieee_normal 8 23 _ true 135 6291456 (by decide) (by decide) (by decide) (by decide) (by decide) (-448) (by norm_num) : Ideal.ieee 8 23 0xC3E00000#32 = _).symm
theorem hi_dy : Ideal.ofBits .bf16 0x4760#16 = Ideal.ofBits .f32 0x47600000#32 :=
  (ieee_normal 8 7 _ false 142 96 (by decide) (by decide) (by decide) (by decide) (by decide) 57344 (by norm_num) : Ideal.ieee 8 7 0x4760#16 = _).trans
    (ieee_normal 8 23 _ false 142 6291456 (by decide) (by decide) (by decide) (by decide) (by decide) 57344 (by norm_num) : Ideal.ieee 8 23 0x47600000#32 = _).symm
theorem lo_dy : Ideal.ofBits .bf16 0xC760#16 = Ideal.ofBits .f32 0xC7600000#32 :=
  (ieee_normal 8 7 _ true 142 96 (by decide) (by decide) (by decide) (by decide) (by decide) (-57344) (by norm_num) : Ideal.ieee 8 7 0xC760#16 = _).trans
    (ieee_normal 8 23 _ true 142 6291456 (by decide) (by decide) (by decide) (by decide) (by decide) (-57344) (by norm_num) : Ideal.ieee 8 23 0xC7600000#32 = _).symm

/-! ## The ratios are in the range where the two scales agree -/

/-- An entry that is infinite or no larger than the largest finite bf16 value. -/
def Fits (x : EReal) : Prop := max x (-x) ≤ largest ∨ max x (-x) = ⊤

theorem chan_range {C : ℕ} (k : BitVec 32) (a : ℝ) (hk : Ideal.ofBits .f32 k = (a : EReal)) (ha : 0 < a) (ha' : a ≤ 1 / 8)
    (X : (⟨2, ![3072, C]⟩ : Shape).Idx → EReal) (hX : ∀ i, Fits (X i)) (c : Fin C) :
    0 ≤ chan k X c ∧ (chan k X c < (((2 : ℝ) ^ (126 : ℤ) : ℝ) : EReal) ∨ chan k X c = ⊤) := by
  have h0 : 0 ≤ colMax X c := by
    refine le_trans ?_ (le_iSup (fun r : Fin 3072 => max (X (ValueIdx.ix2 r c)) (-(X (ValueIdx.ix2 r c)))) 0)
    rcases le_total 0 (X (ValueIdx.ix2 (0 : Fin 3072) c)) with h | h
    · exact le_max_of_le_left h
    · exact le_max_of_le_right (by simpa using EReal.neg_le_neg_iff.mpr h)
  have h1 : colMax X c ≤ largest ∨ colMax X c = ⊤ := by
    by_cases h : ∀ r : Fin 3072, max (X (ValueIdx.ix2 r c)) (-(X (ValueIdx.ix2 r c))) ≤ largest
    · exact .inl (iSup_le h)
    · obtain ⟨r, hr⟩ := not_forall.mp h
      have hr := (hX (ValueIdx.ix2 r c)).resolve_left hr
      exact .inr (top_le_iff.mp (hr ▸ le_iSup (fun r : Fin 3072 => max (X (ValueIdx.ix2 r c)) (-(X (ValueIdx.ix2 r c)))) r))
  unfold chan
  rw [hk]
  generalize colMax X c = z at h0 h1
  rw [largest_eq] at h1
  have ha0 : (0 : EReal) < (a : EReal) := by exact_mod_cast ha
  refine ⟨mul_nonneg h0 ha0.le, ?_⟩
  rcases h1 with h1 | rfl
  · induction z with
    | bot => exact absurd h0 (by simp)
    | top => exact absurd h1 (not_le.mpr (EReal.coe_lt_top _))
    | coe r =>
      refine .inl ?_
      have h0 : 0 ≤ r := by exact_mod_cast h0
      have h1 : r ≤ 255 * 2 ^ (120 : ℕ) := by exact_mod_cast h1
      rw [← EReal.coe_mul, EReal.coe_lt_coe_iff]
      calc r * a ≤ (255 * 2 ^ (120 : ℕ)) * (1 / 8) := mul_le_mul h1 ha' ha.le (by positivity)
        _ < (2 : ℝ) ^ (126 : ℤ) := by norm_num
  · exact .inr (EReal.top_mul_coe_of_pos ha)

theorem range_x {C : ℕ} (X : (⟨2, ![3072, C]⟩ : Shape).Idx → EReal) (hX : ∀ i, Fits (X i)) (c : Fin C) :
    kScale (chan 0x3B124925#32 X c) = rScale (chan 0x3B124925#32 X c) ∧ kInv (chan 0x3B124925#32 X c) = rInv (chan 0x3B124925#32 X c) := by
  have h := chan_range 0x3B124925#32 _ ratio_x (by norm_num) (by norm_num) X hX c
  exact scale_eq _ h.1 h.2

theorem range_dy {C : ℕ} (X : (⟨2, ![3072, C]⟩ : Shape).Idx → EReal) (hX : ∀ i, Fits (X i)) (c : Fin C) :
    kScale (chan 0x37924925#32 X c) = rScale (chan 0x37924925#32 X c) ∧ kInv (chan 0x37924925#32 X c) = rInv (chan 0x37924925#32 X c) := by
  have h := chan_range 0x37924925#32 _ ratio_dy (by norm_num) (by norm_num) X hX c
  exact scale_eq _ h.1 h.2

/-! ## The results -/

theorem xScales_eq (X : KernelIdeal.S3072x3840.Idx → EReal) (hX : ∀ i, Fits (X i)) :
    KernelIdeal.Quant.xScales X = ReferenceIdeal.Read.xScales X := funext fun y => (range_x X hX (y 1)).1

theorem dyScales_eq (X : KernelIdeal.S3072x5632.Idx → EReal) (hX : ∀ i, Fits (X i)) :
    KernelIdeal.Quant.dyScales X = ReferenceIdeal.Read.dyScales X := funext fun y => (range_dy X hX (y 1)).1

theorem xCodes_eq (X : KernelIdeal.S3072x3840.Idx → EReal) (hX : ∀ i, Fits (X i)) :
    KernelIdeal.Quant.xCodes X = ReferenceIdeal.Read.xCodes X := funext fun y => by
  unfold KernelIdeal.Quant.xCodes ReferenceIdeal.Read.xCodes KernelIdeal.Quant.codes ReferenceIdeal.Read.codes
  rw [hi_x, lo_x]
  exact congrArg (fun z : EReal => min _ (max _ (X y * z))) (range_x X hX (y 1)).2

theorem dyCodes_eq (X : KernelIdeal.S3072x5632.Idx → EReal) (hX : ∀ i, Fits (X i)) :
    KernelIdeal.Quant.dyCodes X = ReferenceIdeal.Read.dyCodes X := funext fun y => by
  unfold KernelIdeal.Quant.dyCodes ReferenceIdeal.Read.dyCodes KernelIdeal.Quant.codes ReferenceIdeal.Read.codes
  rw [hi_dy, lo_dy]
  exact congrArg (fun z : EReal => min _ (max _ (X y * z))) (range_dy X hX (y 1)).2

theorem outs_eq (X : KernelIdeal.S3072x3840.Idx → EReal) (hX : ∀ i, Fits (X i)) (DY : KernelIdeal.S3072x5632.Idx → EReal)
    (hDY : ∀ i, Fits (DY i)) (MG : KernelIdeal.S5632x3840.Idx → EReal) :
    KernelIdeal.Quant.outs X DY MG = ReferenceIdeal.Read.outs X DY MG := by
  unfold KernelIdeal.Quant.outs ReferenceIdeal.Read.outs
  rw [xCodes_eq X hX, dyCodes_eq DY hDY, xScales_eq X hX, dyScales_eq DY hDY]

/-! ## The precondition -/

instance : Subsingleton Pre_bf16_values.S_.Idx := ⟨fun a b => funext fun i => i.elim0⟩

/-- What the precondition's test of one entry says. -/
theorem fits_of_test (x : EReal)
    (h : IntOp.ori (Ideal.cmp .ole (max x (-x)) largest) (Ideal.cmp .oeq (max x (-x)) (Ideal.ofBits .f32 0x7F800000#32)) = 1#1) : Fits x := by
  rw [ofBits_inf] at h
  unfold Fits
  by_contra hc
  obtain ⟨h1, h2⟩ := not_or.mp hc
  unfold Ideal.cmp IntOp.ori at h
  simp only [h1, h2] at h
  exact absurd h (by decide)

theorem fits_of_pre (x : FVec Ideal Pre_bf16_values.S3x1024x3840 .bf16) (dy : FVec Ideal Pre_bf16_values.S3x1024x5632 .bf16)
    (mg : FVec Ideal Pre_bf16_values.S5632x3840 .f32) (h : Pre_bf16_values.fn (F := Ideal) x dy mg = fun _ => 1#1) :
    (∀ i, Fits (x i)) ∧ (∀ i, Fits (dy i)) := by
  have h := congrFun h (fun a => a.elim0)
  dsimp only [Pre_bf16_values.fn] at h
  have h := IntOp.andi_eq_one.mp h
  refine ⟨fun i => fits_of_test (x i) ?_, fun i => fits_of_test (dy i) ?_⟩
  · exact Host.reduce_andi_all _ _ _ _ _ h.1 i
  · exact Host.reduce_andi_all _ _ _ _ _ h.2 i

end Cert.Equation
-- ==== Proof.lean ====
module

public import proofs.«01_k».proof.Defs
public import proofs.«01_k».proof.Proof.FrameRun
public import proofs.«01_k».proof.Proof.FrameRunK
public import proofs.«01_k».proof.Proof.Results
public import proofs.«01_k».proof.Proof.ReferenceRun
public import proofs.«01_k».proof.Proof.Equation

@[expose] public section

noncomputable section

namespace Cert.Proof

open Idealize.ShloMosaic Idealize.ShloMosaic.TcCoe Idealize.SL.Sem

/-- Over the reals the kernel and the reference compute the same five results. -/
theorem algebraic : Cert.algebraic_KernelIdeal_ReferenceIdeal_pre_bf16_values := by
  intro m g m' g' hpre hargs
  have hfit := fun c => Cert.Equation.fits_of_pre _ _ _ (hpre c)
  have hx : ∀ c i, Cert.Equation.Fits (Cert.KernelIdeal.Track.xArg m c i) := fun c i => (hfit c).1 _
  have hdy : ∀ c i, Cert.Equation.Fits (Cert.KernelIdeal.Track.dyArg m c i) := fun c i => (hfit c).2 _
  have ex : ∀ c : Dev Cert.KernelIdeal.nD, Cert.ReferenceIdeal.Read.xArg m' c = Cert.KernelIdeal.Track.xArg m c := fun c => by
    unfold Cert.ReferenceIdeal.Read.xArg Cert.KernelIdeal.Track.xArg
    rw [(hargs c).1]
  have edy : ∀ c : Dev Cert.KernelIdeal.nD, Cert.ReferenceIdeal.Read.dyArg m' c = Cert.KernelIdeal.Track.dyArg m c := fun c => by
    unfold Cert.ReferenceIdeal.Read.dyArg Cert.KernelIdeal.Track.dyArg
    rw [(hargs c).2.1]
  have emg : ∀ c : Dev Cert.KernelIdeal.nD, Cert.ReferenceIdeal.Read.mgArg m' c = Cert.KernelIdeal.Track.mgArg m c := fun c => (hargs c).2.2
  refine ⟨_, _, _, _, _, Cert.KernelIdeal.Track.run_values m g, ?_⟩
  refine (θ_run _ _ _).mono (fun r h c => ?_) (Cert.ReferenceIdeal.Read.run_values m' g')
  obtain ⟨h0, h1, h2, h3, h4, hk⟩ := h c
  rw [ex c, edy c, emg c] at h0
  rw [ex c] at h1 h2
  rw [edy c] at h3 h4
  exact ⟨h0.trans (Cert.Equation.outs_eq _ (hx c) _ (hdy c) _).symm, h1.trans (Cert.Equation.xCodes_eq _ (hx c)).symm,
    h2.trans (Cert.Equation.xScales_eq _ (hx c)).symm, h3.trans (Cert.Equation.dyCodes_eq _ (hdy c)).symm,
    h4.trans (Cert.Equation.dyScales_eq _ (hdy c)).symm, hk⟩

theorem claim : Cert.Claim :=
  ⟨Cert.Kernel.Gen.facts, Cert.KernelIdeal.Gen.facts, Cert.ReferenceIdeal.Gen.facts, Cert.Pre_bf16_values.Gen.facts,
    fun m g _ => Cert.Kernel.Run.quiescent m g,
    fun m g _ => Cert.KernelIdeal.Run.quiescent m g,
    fun m g _ => Cert.KernelIdeal.Run.quiescent m g,
    fun m g _ => Cert.ReferenceIdeal.Gen.frame m g,
    fun m g _ => Cert.ReferenceIdeal.Gen.frame m g,
    trivial,
    algebraic⟩

end Cert.Proof

end
